-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "neg_log2e" .f32 0xBFB8AA3B#32 ((-((Real.log 2)⁻¹) : ℝ) : EReal)
  ∧ IdealRules.named_const.Statement Cert.KernelIdeal.κ "inv_127" .f32 0x3C010204#32 ((1 / 127 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_v1_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1536 : Shape := ⟨2, ![4096, 1536]⟩
abbrev S32x128 : Shape := ⟨2, ![32, 128]⟩
abbrev S1536x6912 : Shape := ⟨2, ![1536, 6912]⟩
abbrev S6912 : Shape := ⟨1, ![6912]⟩
abbrev S6912x1536 : Shape := ⟨2, ![6912, 1536]⟩
abbrev S1536 : Shape := ⟨1, ![1536]⟩
abbrev S1x6912 : Shape := ⟨2, ![1, 6912]⟩
abbrev S1x1536 : Shape := ⟨2, ![1, 1536]⟩
abbrev S4096x6912 : Shape := ⟨2, ![4096, 6912]⟩
abbrev S256x1536 : Shape := ⟨2, ![256, 1536]⟩
abbrev S256x6912 : Shape := ⟨2, ![256, 6912]⟩
abbrev S2x128 : Shape := ⟨2, ![2, 128]⟩
abbrev S1x128 : Shape := ⟨2, ![1, 128]⟩
abbrev S8x128 : Shape := ⟨2, ![8, 128]⟩
abbrev S128x128 : Shape := ⟨2, ![128, 128]⟩
abbrev S256x128 : Shape := ⟨2, ![256, 128]⟩
abbrev S1536x256 : Shape := ⟨2, ![1536, 256]⟩
abbrev S256x256 : Shape := ⟨2, ![256, 256]⟩
abbrev S1x256 : Shape := ⟨2, ![1, 256]⟩
abbrev S6912x256 : Shape := ⟨2, ![6912, 256]⟩

abbrev nBuf : Space → Nat
  | .hbm => 15
  | .vmem => 19
  | .smem => 0
  | _ => 0

abbrev bufTy : (tb : Table) → Fin (tcTables nBuf tb) → BufTy
  | .hbm, ⟨0, _⟩ => ⟨S4096x1536, .i8⟩
  | .hbm, ⟨1, _⟩ => ⟨S32x128, .f32⟩
  | .hbm, ⟨2, _⟩ => ⟨S4096x1536, .f32⟩
  | .hbm, ⟨3, _⟩ => ⟨S1536x6912, .i8⟩
  | .hbm, ⟨4, _⟩ => ⟨S6912, .f32⟩
  | .hbm, ⟨5, _⟩ => ⟨S1536x6912, .i8⟩
  | .hbm, ⟨6, _⟩ => ⟨S6912, .f32⟩
  | .hbm, ⟨7, _⟩ => ⟨S6912x1536, .i8⟩
  | .hbm, ⟨8, _⟩ => ⟨S1536, .f32⟩
  | .hbm, ⟨9, _⟩ => ⟨S1x6912, .f32⟩
  | .hbm, ⟨10, _⟩ => ⟨S1x6912, .f32⟩
  | .hbm, ⟨11, _⟩ => ⟨S1x1536, .f32⟩
  | .hbm, ⟨12, _⟩ => ⟨S4096x1536, .bf16⟩
  | .hbm, ⟨13, _⟩ => ⟨S4096x6912, .i8⟩
  | .hbm, ⟨14, _⟩ => ⟨S32x128, .f32⟩
  | .local _ .vmem, ⟨0, _⟩ => ⟨S256x1536, .i8⟩
  | .local _ .vmem, ⟨1, _⟩ => ⟨S256x1536, .i8⟩
  | .local _ .vmem, ⟨2, _⟩ => ⟨S32x128, .f32⟩
  | .local _ .vmem, ⟨3, _⟩ => ⟨S256x1536, .f32⟩
  | .local _ .vmem, ⟨4, _⟩ => ⟨S256x1536, .f32⟩
  | .local _ .vmem, ⟨5, _⟩ => ⟨S1536x6912, .i8⟩
  | .local _ .vmem, ⟨6, _⟩ => ⟨S1x6912, .f32⟩
  | .local _ .vmem, ⟨7, _⟩ => ⟨S1536x6912, .i8⟩
  | .local _ .vmem, ⟨8, _⟩ => ⟨S1x6912, .f32⟩
  | .local _ .vmem, ⟨9, _⟩ => ⟨S6912x1536, .i8⟩
  | .local _ .vmem, ⟨10, _⟩ => ⟨S1x1536, .f32⟩
  | .local _ .vmem, ⟨11, _⟩ => ⟨S256x1536, .bf16⟩
  | .local _ .vmem, ⟨12, _⟩ => ⟨S256x1536, .bf16⟩
  | .local _ .vmem, ⟨13, _⟩ => ⟨S256x6912, .i8⟩
  | .local _ .vmem, ⟨14, _⟩ => ⟨S256x6912, .i8⟩
  | .local _ .vmem, ⟨15, _⟩ => ⟨S32x128, .f32⟩
  | .local _ .vmem, ⟨16, _⟩ => ⟨S256x6912, .f32⟩
  | .local _ .vmem, ⟨17, _⟩ => ⟨S256x1536, .bf16⟩
  | .local _ .vmem, ⟨18, _⟩ => ⟨S256x6912, .bf16⟩
  | _, _ => ⟨S4096x1536, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev main_v3_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15

abbrev nD : Nat := 1
abbrev τ : Topo := Topo.v7x

variable {F : FTy → Type} [FloatOps F]

abbrev grid0 : Pipeline.Grid := ⟨1, ![16], ![false]⟩

def k0_off1 (i : grid0.Coords) : Fin 2 → Nat :=
  let arg0 : BitVec 32 := BitVec.ofNat 32 (i 0).val
  let c2_i32 : BitVec 32 := 2#32
  let v5 : BitVec 32 := Scalar.muli arg0 c2_i32
  let v6 : Index := Scalar.indexCast v5
  let c0_3 : Index := 0#32
  ![v6.toNat, 0]
@[reducible] def k0_t1_loop : Scf.Loop 32 :=
  let c0_i32 : BitVec 32 := 0#32
  let c9_i32 : BitVec 32 := 9#32
  let v20 : BitVec 32 := Scalar.addi c0_i32 c9_i32
  let c1_i32 : BitVec 32 := 1#32
  ⟨c0_i32, v20, c1_i32⟩
def k0_mult1 (k0_t1 : Fin k0_t1_loop.trips) : BitVec 32 :=
  let c0_i32 : BitVec 32 := 0#32
  let c1_i32 : BitVec 32 := 1#32
  let arg16 : BitVec 32 := Scf.iv c0_i32 c1_i32 k0_t1
  let c3_i32_26 : BitVec 32 := 3#32
  let v134 : BitVec 32 := Scalar.muli arg16 c3_i32_26
  let c0_i32_27 : BitVec 32 := 0#32
  let v135 : BitVec 32 := Scalar.addi v134 c0_i32_27
  let c256_i32 : BitVec 32 := 256#32
  let v136 : BitVec 32 := Scalar.muli v135 c256_i32
  v136
def k0_off2 (k0_t1 : Fin k0_t1_loop.trips) (c0_i32_27 : BitVec 32) : Fin 2 → Nat :=
  let c0_30 : Index := 0#32
  let c0_i32 : BitVec 32 := 0#32
  let c1_i32 : BitVec 32 := 1#32
  let arg16 : BitVec 32 := Scf.iv c0_i32 c1_i32 k0_t1
  let c3_i32_26 : BitVec 32 := 3#32
  let v134 : BitVec 32 := Scalar.muli arg16 c3_i32_26
  let v135 : BitVec 32 := Scalar.addi v134 c0_i32_27
  let c256_i32 : BitVec 32 := 256#32
  let v136 : BitVec 32 := Scalar.muli v135 c256_i32
  let v137 : BitVec 32 := v136
  let v139 : Index := Scalar.indexCast v137
  ![0, v139.toNat]
def k0_off3 (k0_t1 : Fin k0_t1_loop.trips) (c0_i32_27 : BitVec 32) : Fin 2 → Nat :=
  let c0_32 : Index := 0#32
  let c0_i32 : BitVec 32 := 0#32
  let c1_i32 : BitVec 32 := 1#32
  let arg16 : BitVec 32 := Scf.iv c0_i32 c1_i32 k0_t1
  let c3_i32_26 : BitVec 32 := 3#32
  let v134 : BitVec 32 := Scalar.muli arg16 c3_i32_26
  let v135 : BitVec 32 := Scalar.addi v134 c0_i32_27
  let c256_i32 : BitVec 32 := 256#32
  let v136 : BitVec 32 := Scalar.muli v135 c256_i32
  let v137 : BitVec 32 := v136
  let v144 : Index := Scalar.indexCast v137
  ![0, v144.toNat]
def k0_off4 (k0_t1 : Fin k0_t1_loop.trips) (c0_i32_27 : BitVec 32) : Fin 2 → Nat :=
  let c0_41 : Index := 0#32
  let c0_i32 : BitVec 32 := 0#32
  let c1_i32 : BitVec 32 := 1#32
  let arg16 : BitVec 32 := Scf.iv c0_i32 c1_i32 k0_t1
  let c3_i32_26 : BitVec 32 := 3#32
  let v134 : BitVec 32 := Scalar.muli arg16 c3_i32_26
  let v135 : BitVec 32 := Scalar.addi v134 c0_i32_27
  let c256_i32 : BitVec 32 := 256#32
  let v136 : BitVec 32 := Scalar.muli v135 c256_i32
  let v137 : BitVec 32 := v136
  let v171 : Index := Scalar.indexCast v137
  ![0, v171.toNat]
def k0_mult2 (k0_t1 : Fin k0_t1_loop.trips) : BitVec 32 :=
  let c0_i32 : BitVec 32 := 0#32
  let c1_i32 : BitVec 32 := 1#32
  let arg16 : BitVec 32 := Scf.iv c0_i32 c1_i32 k0_t1
  let c3_i32_42 : BitVec 32 := 3#32
  let v180 : BitVec 32 := Scalar.muli arg16 c3_i32_42
  let c1_i32_43 : BitVec 32 := 1#32
  let v181 : BitVec 32 := Scalar.addi v180 c1_i32_43
  let c256_i32_44 : BitVec 32 := 256#32
  let v182 : BitVec 32 := Scalar.muli v181 c256_i32_44
  v182
def k0_mult3 (k0_t1 : Fin k0_t1_loop.trips) : BitVec 32 :=
  let c0_i32 : BitVec 32 := 0#32
  let c1_i32 : BitVec 32 := 1#32
  let arg16 : BitVec 32 := Scf.iv c0_i32 c1_i32 k0_t1
  let c3_i32_59 : BitVec 32 := 3#32
  let v226 : BitVec 32 := Scalar.muli arg16 c3_i32_59
  let c2_i32_60 : BitVec 32 := 2#32
  let v227 : BitVec 32 := Scalar.addi v226 c2_i32_60
  let c256_i32_61 : BitVec 32 := 256#32
  let v228 : BitVec 32 := Scalar.muli v227 c256_i32_61
  v228
@[reducible] def k0_t2_loop : Scf.Loop 32 :=
  let c0_i32_20 : BitVec 32 := 0#32
  let c27_i32 : BitVec 32 := 27#32
  let v132 : BitVec 32 := Scalar.addi c0_i32_20 c27_i32
  let c1_i32_21 : BitVec 32 := 1#32
  ⟨c0_i32_20, v132, c1_i32_21⟩
def k0_mult4 (k0_t2 : Fin k0_t2_loop.trips) : BitVec 32 :=
  let c0_i32_20 : BitVec 32 := 0#32
  let c1_i32_21 : BitVec 32 := 1#32
  let arg16 : BitVec 32 := Scf.iv c0_i32_20 c1_i32_21 k0_t2
  let c256_i32 : BitVec 32 := 256#32
  let v134 : BitVec 32 := Scalar.muli arg16 c256_i32
  v134
def k0_off5 (k0_t2 : Fin k0_t2_loop.trips) : Fin 2 → Nat :=
  let c0_26 : Index := 0#32
  let c0_i32_20 : BitVec 32 := 0#32
  let c1_i32_21 : BitVec 32 := 1#32
  let arg16 : BitVec 32 := Scf.iv c0_i32_20 c1_i32_21 k0_t2
  let c256_i32 : BitVec 32 := 256#32
  let v134 : BitVec 32 := Scalar.muli arg16 c256_i32
  let v135 : BitVec 32 := v134
  let v136 : Index := Scalar.indexCast v135
  ![0, v136.toNat]
@[reducible] def k0_t3_loop : Scf.Loop 32 :=
  let c0_i32_23 : BitVec 32 := 0#32
  let c3_i32 : BitVec 32 := 3#32
  let v133 : BitVec 32 := Scalar.addi c0_i32_23 c3_i32
  let c1_i32_24 : BitVec 32 := 1#32
  ⟨c0_i32_23, v133, c1_i32_24⟩
def k0_mult5 (k0_t3 : Fin k0_t3_loop.trips) : BitVec 32 :=
  let c2_i32_26 : BitVec 32 := 2#32
  let c0_i32_23 : BitVec 32 := 0#32
  let c1_i32_24 : BitVec 32 := 1#32
  let arg16 : BitVec 32 := Scf.iv c0_i32_23 c1_i32_24 k0_t3
  let v134 : BitVec 32 := Scalar.muli c2_i32_26 arg16
  let c0_i32_27 : BitVec 32 := 0#32
  let v135 : BitVec 32 := Scalar.addi v134 c0_i32_27
  let c256_i32 : BitVec 32 := 256#32
  let v136 : BitVec 32 := Scalar.muli v135 c256_i32
  v136
def k0_off6 (k0_t3 : Fin k0_t3_loop.trips) (c0_i32_27 : BitVec 32) : Fin 2 → Nat :=
  let c0_30 : Index := 0#32
  let c2_i32_26 : BitVec 32 := 2#32
  let c0_i32_23 : BitVec 32 := 0#32
  let c1_i32_24 : BitVec 32 := 1#32
  let arg16 : BitVec 32 := Scf.iv c0_i32_23 c1_i32_24 k0_t3
  let v134 : BitVec 32 := Scalar.muli c2_i32_26 arg16
  let v135 : BitVec 32 := Scalar.addi v134 c0_i32_27
  let c256_i32 : BitVec 32 := 256#32
  let v136 : BitVec 32 := Scalar.muli v135 c256_i32
  let v137 : BitVec 32 := v136
  let v139 : Index := Scalar.indexCast v137
  ![0, v139.toNat]
def k0_off7 (k0_t3 : Fin k0_t3_loop.trips) (c0_i32_27 : BitVec 32) : Fin 2 → Nat :=
  let c0_32 : Index := 0#32
  let c2_i32_26 : BitVec 32 := 2#32
  let c0_i32_23 : BitVec 32 := 0#32
  let c1_i32_24 : BitVec 32 := 1#32
  let arg16 : BitVec 32 := Scf.iv c0_i32_23 c1_i32_24 k0_t3
  let v134 : BitVec 32 := Scalar.muli c2_i32_26 arg16
  let v135 : BitVec 32 := Scalar.addi v134 c0_i32_27
  let c256_i32 : BitVec 32 := 256#32
  let v136 : BitVec 32 := Scalar.muli v135 c256_i32
  let v137 : BitVec 32 := v136
  let v143 : Index := Scalar.indexCast v137
  ![0, v143.toNat]
def k0_off8 (k0_t3 : Fin k0_t3_loop.trips) (c0_i32_27 : BitVec 32) : Fin 2 → Nat :=
  let c0_33 : Index := 0#32
  let c2_i32_26 : BitVec 32 := 2#32
  let c0_i32_23 : BitVec 32 := 0#32
  let c1_i32_24 : BitVec 32 := 1#32
  let arg16 : BitVec 32 := Scf.iv c0_i32_23 c1_i32_24 k0_t3
  let v134 : BitVec 32 := Scalar.muli c2_i32_26 arg16
  let v135 : BitVec 32 := Scalar.addi v134 c0_i32_27
  let c256_i32 : BitVec 32 := 256#32
  let v136 : BitVec 32 := Scalar.muli v135 c256_i32
  let v137 : BitVec 32 := v136
  let v146 : Index := Scalar.indexCast v137
  ![0, v146.toNat]
def k0_mult6 (k0_t3 : Fin k0_t3_loop.trips) : BitVec 32 :=
  let c2_i32_35 : BitVec 32 := 2#32
  let c0_i32_23 : BitVec 32 := 0#32
  let c1_i32_24 : BitVec 32 := 1#32
  let arg16 : BitVec 32 := Scf.iv c0_i32_23 c1_i32_24 k0_t3
  let v156 : BitVec 32 := Scalar.muli c2_i32_35 arg16
  let c1_i32_36 : BitVec 32 := 1#32
  let v157 : BitVec 32 := Scalar.addi v156 c1_i32_36
  let c256_i32_37 : BitVec 32 := 256#32
  let v158 : BitVec 32 := Scalar.muli v157 c256_i32_37
  v158
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1536 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1536x6912 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x6912 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1536x6912 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x6912 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S6912x1536 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1536 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1536 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x6912 .i8 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S32x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== KernelIdeal.lean ====
variable {F : FTy → Type} [FloatOps F] [Named F]
def κ : String → Option EReal := fun
  | "inv_127" => some ((1 / 127 : ℝ) : EReal)
  | "neg_log2e" => some ((-((Real.log 2)⁻¹) : ℝ) : EReal)
  | _ => none
-- ==== ReferenceIdeal.lean ====
abbrev S4096x1536 : Shape := ⟨2, ![4096, 1536]⟩
abbrev S32x128 : Shape := ⟨2, ![32, 128]⟩
abbrev S1536x6912 : Shape := ⟨2, ![1536, 6912]⟩
abbrev S6912 : Shape := ⟨1, ![6912]⟩
abbrev S6912x1536 : Shape := ⟨2, ![6912, 1536]⟩
abbrev S1536 : Shape := ⟨1, ![1536]⟩
abbrev S4096 : Shape := ⟨1, ![4096]⟩
abbrev S4096x6912 : Shape := ⟨2, ![4096, 6912]⟩
abbrev S4096x1 : Shape := ⟨2, ![4096, 1]⟩
abbrev S1x6912 : Shape := ⟨2, ![1, 6912]⟩
abbrev S1x1536 : Shape := ⟨2, ![1, 1536]⟩

abbrev nBuf : Space → Nat
  | .hbm => 13
  | .vmem => 12
  | .smem => 0
  | _ => 0

abbrev bufTy : (tb : Table) → Fin (tcTables nBuf tb) → BufTy
  | .hbm, ⟨0, _⟩ => ⟨S4096x1536, .i8⟩
  | .hbm, ⟨1, _⟩ => ⟨S32x128, .f32⟩
  | .hbm, ⟨2, _⟩ => ⟨S4096x1536, .f32⟩
  | .hbm, ⟨3, _⟩ => ⟨S1536x6912, .i8⟩
  | .hbm, ⟨4, _⟩ => ⟨S6912, .f32⟩
  | .hbm, ⟨5, _⟩ => ⟨S1536x6912, .i8⟩
  | .hbm, ⟨6, _⟩ => ⟨S6912, .f32⟩
  | .hbm, ⟨7, _⟩ => ⟨S6912x1536, .i8⟩
  | .hbm, ⟨8, _⟩ => ⟨S1536, .f32⟩
  | .hbm, ⟨9, _⟩ => ⟨S4096, .f32⟩
  | .hbm, ⟨10, _⟩ => ⟨S4096x1536, .bf16⟩
  | .hbm, ⟨11, _⟩ => ⟨S4096x6912, .i8⟩
  | .hbm, ⟨12, _⟩ => ⟨S32x128, .f32⟩
  | .local _ .vmem, ⟨0, _⟩ => ⟨S4096x1536, .i8⟩
  | .local _ .vmem, ⟨1, _⟩ => ⟨S4096, .f32⟩
  | .local _ .vmem, ⟨2, _⟩ => ⟨S4096x1536, .f32⟩
  | .local _ .vmem, ⟨3, _⟩ => ⟨S1536x6912, .i8⟩
  | .local _ .vmem, ⟨4, _⟩ => ⟨S6912, .f32⟩
  | .local _ .vmem, ⟨5, _⟩ => ⟨S1536x6912, .i8⟩
  | .local _ .vmem, ⟨6, _⟩ => ⟨S6912, .f32⟩
  | .local _ .vmem, ⟨7, _⟩ => ⟨S6912x1536, .i8⟩
  | .local _ .vmem, ⟨8, _⟩ => ⟨S1536, .f32⟩
  | .local _ .vmem, ⟨9, _⟩ => ⟨S4096x1536, .bf16⟩
  | .local _ .vmem, ⟨10, _⟩ => ⟨S4096x6912, .i8⟩
  | .local _ .vmem, ⟨11, _⟩ => ⟨S32x128, .f32⟩
  | _, _ => ⟨S4096x1536, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S4096x1536 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1536x6912 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6912 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1536x6912 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6912 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6912x1536 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1536 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4096x1536 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S4096x6912 .i8 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S32x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.FRun.lean ====
/-
  ONE STEP OF THE KERNEL RUNS, over any floating-point values, and leaves its inputs unchanged: what the frame of the kernel
  needs of its body. Nothing is said of what the step writes.
-/
module

public import proofs.«01_k».proof.Proof.Gen.Kernel.Skeleton
public import proofs.«01_k».proof.Proof.Gen.Kernel.Loops
public import proofs.«01_k».proof.Proof.Gen.Kernel.Frame

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: checking it walks past the default budget)
set_option maxHeartbeats 1000000 in
/-- One step of the kernel, for any values: from the nine inputs at their contents and the three outputs and three scratch
    buffers at anything, it ends with the inputs as they were and the rest at some contents. -/
theorem step_runs (c : Dev nD) (i : grid0.Coords) (arg1 : Memref sig .tc .vmem S256x1536 .i8) (harg1 : arg1.IsWhole) (arg2 : Memref sig .tc .vmem S32x128 .f32) (harg2 : arg2.IsWhole) (arg3 : Memref sig .tc .vmem S256x1536 .f32) (harg3 : arg3.IsWhole) (arg4 : Memref sig .tc .vmem S1536x6912 .i8) (harg4 : arg4.IsWhole) (arg5 : Memref sig .tc .vmem S1x6912 .f32) (harg5 : arg5.IsWhole) (arg6 : Memref sig .tc .vmem S1536x6912 .i8) (harg6 : arg6.IsWhole) (arg7 : Memref sig .tc .vmem S1x6912 .f32) (harg7 : arg7.IsWhole) (arg8 : Memref sig .tc .vmem S6912x1536 .i8) (harg8 : arg8.IsWhole) (arg9 : Memref sig .tc .vmem S1x1536 .f32) (harg9 : arg9.IsWhole) (arg10 : Memref sig .tc .vmem S256x1536 .bf16) (harg10 : arg10.IsWhole) (arg11 : Memref sig .tc .vmem S256x6912 .i8) (harg11 : arg11.IsWhole) (arg12 : Memref sig .tc .vmem S32x128 .f32) (harg12 : arg12.IsWhole) (arg13 : Memref sig .tc .vmem S256x6912 .f32) (harg13 : arg13.IsWhole) (arg14 : Memref sig .tc .vmem S256x1536 .bf16) (harg14 : arg14.IsWhole) (arg15 : Memref sig .tc .vmem S256x6912 .bf16) (harg15 : arg15.IsWhole)
    (x0 : Vec F S256x1536 .i8) (x1 : Vec F S32x128 .f32) (x2 : Vec F S256x1536 .f32) (x3 : Vec F S1536x6912 .i8) (x4 : Vec F S1x6912 .f32) (x5 : Vec F S1536x6912 .i8) (x6 : Vec F S1x6912 .f32) (x7 : Vec F S6912x1536 .i8) (x8 : Vec F S1x1536 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
          ⊢ wp frame (wpE (defs₀ (F := F)) Variants.none c none) E (cc0_mlp i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
    intro E K
    simp only [cc0_mlp_eq_skeleton]; unfold cc0_mlp_skel
    simp only [k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.Kernel.Hand

end
-- ==== Proof.FFrame.lean ====
/-
  THE FRAME OF THE KERNEL, over any floating-point values: it ends from any memory, with its nine argument arrays as they
  were and every counter at zero. The three outputs are owned at some contents throughout.
-/
module

public import proofs.«01_k».proof.Proof.FRun
public import Idealize.ShloMosaic.Lib.Claim

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers of a step -/

/-- Each window's current staging memref at point `t`, spelled as the pipeline passes it (`bodyAt0`), and its wholeness. -/
abbrev ms0_0 (t : Fin cfg0.N) : Memref sig .tc .vmem S256x1536 .i8 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S32x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x1536 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1536x6912 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x6912 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1536x6912 .i8 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x6912 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S6912x1536 .i8 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1536 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x1536 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S256x6912 .i8 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S32x128 .f32 := win0_11.stage (cfg0.slots t 11)
abbrev hs0_11 (t : Fin cfg0.N) : (ms0_11 t).IsWhole := hstage0_11 ((cfg0.slots t 11).cast nbuf0_11)
/-- The scratch operands: whole scoped buffers of the kernel's own, passed beside the windows. -/
abbrev scM0_0 : Memref sig .tc .vmem S256x6912 .f32 := Memref.whole cc0_scratch0
abbrev scM0_1 : Memref sig .tc .vmem S256x1536 .bf16 := Memref.whole cc0_scratch1
abbrev scM0_2 : Memref sig .tc .vmem S256x6912 .bf16 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- A run that ends as the launch says, over relational proof data, leaves the nine argument arrays as they were. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      ((h c).2 main_arg4 (Pipeline.mem_restRefs_of main_arg4 (by decide) (by decide))).trans (V_main_arg4 m c),
      (Pipeline.RDat.FramePost.arr_in h c 5 rfl).trans ((hA c 5).trans (V_main_arg5 m c)),
      ((h c).2 main_arg6 (Pipeline.mem_restRefs_of main_arg6 (by decide) (by decide))).trans (V_main_arg6 m c),
      (Pipeline.RDat.FramePost.arr_in h c 7 rfl).trans ((hA c 7).trans (V_main_arg7 m c)),
      ((h c).2 main_arg8 (Pipeline.mem_restRefs_of main_arg8 (by decide) (by decide))).trans (V_main_arg8 m c)⟩) h

/-! ## The pipeline's proof data -/

/-- The output windows this certificate FORGETS (9, 10, 11): nothing reads what the kernel leaves in them, so nothing
    of it is named (Lib/Pipeline/Dat.lean `Dat.toRForget`). -/
def forgets0 : Fin 12 → Bool := fun w => w.val == 9 || w.val == 10 || w.val == 11

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare d)
    ∗ (∃ d, owns (c : Thread nD τ) (ms0_10 t) fullShare d)
    ∗ (∃ d, owns (c : Thread nD τ) (ms0_11 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ (∃ d, owns (c : Thread nD τ) (ms0_9 t) fullShare d)
    ∗ (∃ d, owns (c : Thread nD τ) (ms0_10 t) fullShare d)
    ∗ (∃ d, owns (c : Thread nD τ) (ms0_11 t) fullShare d))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  rw [show (dats m 0 c).Φ t.castSucc = Pipeline.ΦA spec0 c from rfl, PhiA0_eq]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((step_runs c (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [HS0]; · iexact HS0
  isplitl [HS1]; · iexact HS1
  isplitl [HS2]; · iexact HS2
  iintro ⟨H0, H1, H2, H3, H4, H5, H6, H7, H8, H9, H10, H11, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 9, 10, 11) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (fun c => (dats m 0 c).toRForget forgets0) (A_eq m) (run_main m ρ)

/-- The frame: the kernel ends, its arguments are as they were and every counter is at zero, for any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

end Cert.Kernel.Hand

end
-- ==== Proof.Spec.lean ====
/-
  WHAT ONE ROW OF THE MLP IS, over the extended reals: the gated activation of the row, its largest absolute value, the
  scale and the integer codes it is stored in, and the row of the result. Nothing here names a program: the kernel's
  blocks and the reference's arrays are both read as these functions of a row.
-/
module

public import Idealize.ShloMosaic.PureOps.Ideal.Laws
public import Mathlib.Data.EReal.Operations

@[expose] public section

set_option maxRecDepth 16384

noncomputable section

namespace Cert.Mlp

open Idealize.ShloMosaic
open scoped BigOperators

/-- An integer code as the real number it stands for. -/
def num (b : BitVec 8) : EReal := ((b.toInt : ℝ) : EReal)

/-- A row of codes times a column of codes. -/
def dotRow {K : ℕ} (x w : Fin K → BitVec 8) : EReal := ∑ k : Fin K, num (x k) * num (w k)

/-- A row of codes of scale `sr` times a column of codes of scale `sc`. -/
def lin {K : ℕ} (x : Fin K → BitVec 8) (sr : EReal) (w : Fin K → BitVec 8) (sc : EReal) : EReal :=
  dotRow x w * (sr * sc)

/-- `silu g · u`. -/
def gated (g u : EReal) : EReal := g * Ideal.logistic g * u

/-- The absolute value over the extended reals. -/
def mag (v : EReal) : EReal := max v (-v)

/-- The largest absolute value of a row. -/
def amax {N : ℕ} (a : Fin N → EReal) : EReal := Finset.univ.sup fun n => mag (a n)

/-- The scale of a row whose largest absolute value is `m`. -/
def scaleOf (m : EReal) : EReal := if m = 0 then 1 else Ideal.div m 127

/-- The nearest integer, ties to even, clipped to what a code holds. -/
def clip (v : EReal) : EReal := min 127 (max (-127) (Ideal.liftRound Ideal.roundHalfEven v))

/-- The code of `v` at scale `s`. -/
def code (v s : EReal) : BitVec 8 := Ideal.fptosi 8 (clip (Ideal.div v s))

/-! ### The row functions -/

/-- The activation of a row of codes `x` of scale `s` at column `n`. -/
def act (x : Fin 1536 → BitVec 8) (s : EReal) (wg : Fin 1536 → Fin 6912 → BitVec 8) (sg : Fin 6912 → EReal)
    (wu : Fin 1536 → Fin 6912 → BitVec 8) (su : Fin 6912 → EReal) (n : Fin 6912) : EReal :=
  gated (lin x s (fun k => wg k n) (sg n)) (lin x s (fun k => wu k n) (su n))

/-- The scale of an activation row. -/
def rowScale (a : Fin 6912 → EReal) : EReal := scaleOf (amax a)

/-- The codes of an activation row. -/
def rowCode (a : Fin 6912 → EReal) (n : Fin 6912) : BitVec 8 := code (a n) (rowScale a)

/-- The row of the result at column `n`: the residual `h` plus the codes times the last weights. -/
def rowOut (a : Fin 6912 → EReal) (h : Fin 1536 → EReal) (wd : Fin 6912 → Fin 1536 → BitVec 8) (sd : Fin 1536 → EReal)
    (n : Fin 1536) : EReal :=
  h n + lin (rowCode a) (rowScale a) (fun k => wd k n) (sd n)

/-! ### What the scalars are -/

theorem mag_nonneg (v : EReal) : 0 ≤ mag v := by
  unfold mag
  rcases le_total 0 v with h | h
  · exact le_max_of_le_left h
  · exact le_max_of_le_right (by rw [EReal.le_neg]; simpa using h)

/-- What `amax` is below: the bounds of every column. -/
theorem amax_le_iff {N : ℕ} (a : Fin N → EReal) (b : EReal) : amax a ≤ b ↔ ∀ n, mag (a n) ≤ b := by
  unfold amax; simp

theorem amax_nonneg {N : ℕ} [NeZero N] (a : Fin N → EReal) : 0 ≤ amax a :=
  (mag_nonneg (a 0)).trans ((amax_le_iff a _).mp le_rfl 0)

/-- The reciprocal of 127 the kernel multiplies by. -/
theorem mul_inv_127 (m : EReal) : m * ((1 / 127 : ℝ) : EReal) = Ideal.div m 127 :=
  (Ideal.div_coe (by norm_num : (127 : ℝ) ≠ 0) m).symm

/-- A row's scale is never zero. -/
theorem scaleOf_ne_zero {m : EReal} (hm : 0 ≤ m) : scaleOf m ≠ 0 := by
  unfold scaleOf
  split
  · exact one_ne_zero
  · next h =>
    have hpos : 0 < m := lt_of_le_of_ne hm (Ne.symm h)
    rw [← mul_inv_127]
    have hc : (0 : EReal) < ((1 / 127 : ℝ) : EReal) := by exact_mod_cast (by norm_num : (0 : ℝ) < 1 / 127)
    exact (EReal.mul_pos hpos hc).ne'

theorem rowScale_ne_zero (a : Fin 6912 → EReal) : rowScale a ≠ 0 := scaleOf_ne_zero (amax_nonneg a)

/-- The kernel's `silu`: `1 / (1 + 2 ^ (g · (-1 / ln 2)))` is the logistic function. -/
theorem logistic_exp2 (g : EReal) :
    Ideal.div 1 (1 + Ideal.exp2 (g * ((-((Real.log 2)⁻¹) : ℝ) : EReal))) = Ideal.logistic g := by
  have hl : (0 : ℝ) < Real.log 2 := Real.log_pos (by norm_num)
  have hneg : -((Real.log 2)⁻¹) < (0 : ℝ) := by simpa using hl
  unfold Ideal.logistic
  congr 2
  induction g with
  | bot => rw [EReal.bot_mul_coe_of_neg hneg]; simp
  | top => rw [EReal.top_mul_coe_of_neg hneg]; simp
  | coe r =>
    rw [← EReal.coe_mul, ← EReal.coe_neg]
    show ((Real.rpow 2 (r * -(Real.log 2)⁻¹) : ℝ) : EReal) = ((Real.exp (-r) : ℝ) : EReal)
    congr 1
    show (2 : ℝ) ^ (r * -(Real.log 2)⁻¹) = _
    rw [Real.rpow_def_of_pos (by norm_num)]
    congr 1
    field_simp

/-- Multiplying by the reciprocal of a nonzero scale is dividing by it. -/
theorem mul_div_one {s : EReal} (hs : s ≠ 0) (v : EReal) : v * Ideal.div 1 s = Ideal.div v s := by
  unfold Ideal.div
  rw [if_neg hs, if_neg hs, one_mul]

theorem roundHalfEven_intCast (z : ℤ) : Ideal.roundHalfEven (z : ℝ) = z := by
  unfold Ideal.roundHalfEven
  simp

theorem roundHalfEven_mono {x y : ℝ} (h : x ≤ y) : Ideal.roundHalfEven x ≤ Ideal.roundHalfEven y := by
  have hf : ⌊x⌋ ≤ ⌊y⌋ := Int.floor_mono h
  have hxl : ⌊x⌋ ≤ Ideal.roundHalfEven x ∧ Ideal.roundHalfEven x ≤ ⌊x⌋ + 1 := by
    unfold Ideal.roundHalfEven; dsimp only; split_ifs <;> omega
  have hyl : ⌊y⌋ ≤ Ideal.roundHalfEven y ∧ Ideal.roundHalfEven y ≤ ⌊y⌋ + 1 := by
    unfold Ideal.roundHalfEven; dsimp only; split_ifs <;> omega
  rcases hf.lt_or_eq with hlt | heq
  · omega
  · unfold Ideal.roundHalfEven
    dsimp only
    rw [heq]
    split_ifs <;> first | omega | (exfalso; linarith) | skip

theorem round_mono : Monotone (Ideal.liftRound Ideal.roundHalfEven) := by
  intro x y h
  induction x with
  | bot => exact bot_le
  | top => rw [top_le_iff] at h; subst h; exact le_rfl
  | coe r =>
    induction y with
    | bot => exact absurd h (by simp)
    | top => exact le_top
    | coe q =>
      have h' : r ≤ q := by exact_mod_cast h
      show (((Ideal.roundHalfEven r : ℝ) : EReal)) ≤ ((Ideal.roundHalfEven q : ℝ) : EReal)
      exact_mod_cast roundHalfEven_mono h'

theorem round_127 : Ideal.liftRound Ideal.roundHalfEven 127 = 127 := by
  show (((Ideal.roundHalfEven 127 : ℤ) : ℝ) : EReal) = ((127 : ℝ) : EReal)
  have := roundHalfEven_intCast 127
  norm_num at this ⊢
  rw [this]; norm_num

theorem round_neg_127 : Ideal.liftRound Ideal.roundHalfEven (-127) = -127 := by
  show (((Ideal.roundHalfEven (-127) : ℤ) : ℝ) : EReal) = ((-127 : ℝ) : EReal)
  have := roundHalfEven_intCast (-127)
  norm_num at this ⊢
  rw [this]; norm_num

/-- Clipping first and rounding afterwards gives the same integer. -/
theorem round_clip (v : EReal) : Ideal.liftRound Ideal.roundHalfEven (min 127 (max (-127) v)) = clip v := by
  unfold clip
  rw [round_mono.map_min, round_mono.map_max, round_127, round_neg_127]

/-- A clipped value is an integer between -127 and 127. -/
theorem clip_int (v : EReal) : ∃ z : ℤ, -127 ≤ z ∧ z ≤ 127 ∧ clip v = ((z : ℝ) : EReal) := by
  have h127 : (127 : EReal) = (((127 : ℤ) : ℝ) : EReal) := by norm_num; rfl
  have hn127 : (-127 : EReal) = (((-127 : ℤ) : ℝ) : EReal) := by
    rw [h127, ← EReal.coe_neg]; norm_num
  unfold clip
  induction v with
  | bot => exact ⟨-127, by norm_num, by norm_num, by
      show min 127 (max (-127) ⊥) = _
      rw [max_eq_left bot_le, hn127, h127]
      exact min_eq_right (by exact_mod_cast (by norm_num : (-127 : ℤ) ≤ 127))⟩
  | top => exact ⟨127, by norm_num, by norm_num, by
      show min 127 (max (-127) ⊤) = _
      rw [max_eq_right le_top, h127]; exact min_eq_left le_top⟩
  | coe r =>
    refine ⟨min 127 (max (-127) (Ideal.roundHalfEven r)), by omega, by omega, ?_⟩
    show min 127 (max (-127) (((Ideal.roundHalfEven r : ℤ) : ℝ) : EReal)) = _
    rw [hn127, h127, Int.cast_min, Int.cast_max]
    rw [EReal.coe_strictMono.monotone.map_min, EReal.coe_strictMono.monotone.map_max]

theorem fptosi_num {z : ℤ} (h0 : -127 ≤ z) (h1 : z ≤ 127) : num (Ideal.fptosi 8 ((z : ℝ) : EReal)) = ((z : ℝ) : EReal) := by
  unfold num Ideal.fptosi
  have e : Ideal.toIntClamped (-(2 ^ (8 - 1) : Nat)) ((2 ^ (8 - 1) : Nat) - 1) ((z : ℝ) : EReal) = z := by
    show max (-((2 ^ (8 - 1) : Nat) : ℤ)) (min (((2 ^ (8 - 1) : Nat) : ℤ) - 1) (if 0 ≤ (z : ℝ) then ⌊(z : ℝ)⌋ else ⌈(z : ℝ)⌉)) = z
    rw [Int.floor_intCast, Int.ceil_intCast]
    simp only [ite_self]
    norm_num
    omega
  rw [e]
  congr 2
  rw [BitVec.toInt_ofInt]
  exact_mod_cast Int.bmod_eq_of_le (by norm_num; omega) (by norm_num; omega)

/-- A code, read back as a number, is the clipped integer it was made from. -/
theorem num_fptosi_clip (v : EReal) : num (Ideal.fptosi 8 (clip v)) = clip v := by
  obtain ⟨z, h0, h1, e⟩ := clip_int v
  rw [e]; exact fptosi_num h0 h1

end Cert.Mlp

end
-- ==== Proof.KBlock.lean ====
/-
  ONE BLOCK, as a function of the blocks of the inputs: the activation of its 256 rows, the codes and scales it quantises to,
  and the result.
-/
module

public import proofs.«01_k».proof.Proof.Spec
public import proofs.«01_k».proof.Proof.Gen.KernelIdeal.Skeleton
public import Idealize.ShloMosaic.Lib.Pointwise

@[expose] public section

set_option maxRecDepth 16384

noncomputable section

namespace Cert.KernelIdeal.Hand

open Cert.KernelIdeal Cert.KernelIdeal.Gen Cert.Mlp Idealize.ShloMosaic

/-- The point's number. -/
def stepOf (i : grid0.Coords) : Fin 16 := ⟨(i 0).val, (i 0).isLt⟩

/-- The scale of row `r` of the block: two rows of 128 of the scale array are one block's. -/
def rowIn (x1 : Vec Ideal S32x128 .f32) (i : grid0.Coords) (r : Fin 256) : EReal :=
  x1 (ix2 ⟨2 * (stepOf i).val + r.val / 128, by omega⟩ ⟨r.val % 128, by omega⟩)

variable (x0 : Vec Ideal S256x1536 .i8) (x1 : Vec Ideal S32x128 .f32) (x2 : Vec Ideal S256x1536 .f32) (x3 : Vec Ideal S1536x6912 .i8)
  (x4 : Vec Ideal S1x6912 .f32) (x5 : Vec Ideal S1536x6912 .i8) (x6 : Vec Ideal S1x6912 .f32) (x7 : Vec Ideal S6912x1536 .i8) (x8 : Vec Ideal S1x1536 .f32)
  (i : grid0.Coords)

/-- The activation of row `r`, column `n`. -/
def actBlk (r : Fin 256) (n : Fin 6912) : EReal :=
  act (fun k => x0 (ix2 r k)) (rowIn x1 i r) (fun k n => x3 (ix2 k n)) (fun n => x4 (ix2 0 n)) (fun k n => x5 (ix2 k n)) (fun n => x6 (ix2 0 n)) n

/-- The block of codes, -/
def codeBlk : Vec Ideal S256x6912 .i8 := fun y => rowCode (actBlk x0 x1 x3 x4 x5 x6 i (y 0)) (y 1)

/-- the block of the result, -/
def outBlk : Vec Ideal S256x1536 .bf16 := fun y =>
  (rowOut (actBlk x0 x1 x3 x4 x5 x6 i (y 0)) (fun n => x2 (ix2 (y 0) n)) (fun k n => x7 (ix2 k n)) (fun n => x8 (ix2 0 n)) (y 1) : EReal)

/-- and the scales: rows `2 i` and `2 i + 1` of the scale array become the block's scales, the others stay. -/
def ScaleUpd (d d' : Vec Ideal S32x128 .f32) : Prop :=
  (∀ (q : Fin 2) (j : Fin 128), d' (ix2 ⟨2 * (stepOf i).val + q.val, by omega⟩ j) = rowScale (actBlk x0 x1 x3 x4 x5 x6 i ⟨q.val * 128 + j.val, by omega⟩)) ∧
    ∀ (p : Fin 32) (j : Fin 128), p.val / 2 ≠ (stepOf i).val → d' (ix2 p j) = d (ix2 p j)

end Cert.KernelIdeal.Hand

end
-- ==== Proof.KPay1.lean ====
/-
  THE FIRST LOOP'S VALUES: what a chunk of 256 columns of the activation is, and how the running maximum of absolute
  values takes a chunk in.
-/
module

public import proofs.«01_k».proof.Proof.Gen.KernelIdeal.Skeleton
public import proofs.«01_k».proof.Proof.Spec
public import Idealize.ShloMosaic.Lib.Pointwise
public import Idealize.ShloMosaic.Lib.Pipeline.Value
public import Idealize.ShloMosaic.PureOps.IdealRules

@[expose] public section

set_option maxRecDepth 16384

noncomputable section

namespace Cert.KernelIdeal.Hand

open Cert.KernelIdeal Cert.KernelIdeal.Gen Cert.Mlp Idealize.ShloMosaic Idealize.SL.Sem
open scoped BigOperators

/-! ### The constants of the program -/

theorem c_zero : (FloatOps.ofBits .f32 0x00000000#32 : Ideal .f32) = (0 : EReal) := by
  simp [Ideal.ofBits, Ideal.ieee, -EReal.coe_mul]

theorem c_one : (FloatOps.ofBits .f32 0x3F800000#32 : Ideal .f32) = (1 : EReal) := by
  simp [Ideal.ofBits, Ideal.ieee, -EReal.coe_mul]; norm_num

theorem c_127 : (FloatOps.ofBits .f32 0x42FE0000#32 : Ideal .f32) = (127 : EReal) := by
  simp [Ideal.ofBits, Ideal.ieee, -EReal.coe_mul]; norm_num; rfl

theorem c_neg_127 : (FloatOps.ofBits .f32 0xC2FE0000#32 : Ideal .f32) = (-127 : EReal) := by
  simp [Ideal.ofBits, Ideal.ieee, -EReal.coe_mul]; norm_num; rfl

theorem k_inv_127 : (Named.named κ "inv_127" 0x3C010204#32 : Ideal .f32) = ((1 / 127 : ℝ) : EReal) :=
  IdealRules.named_const.ideal_named_scalar _ _ _ _ rfl

theorem k_neg_log2e : (Named.named κ "neg_log2e" 0xBFB8AA3B#32 : Ideal .f32) = ((-((Real.log 2)⁻¹) : ℝ) : EReal) :=
  IdealRules.named_const.ideal_named_scalar _ _ _ _ rfl

/-! ### A chunk of the activation -/

/-- A product of codes, scaled by a row scale and a column scale. -/
theorem pay14_apply (v18 : FVec Ideal S256x128 .f32) (x : Vec Ideal S256x1536 .bf16) (wg : Vec Ideal S1536x256 .i8)
    (sg : Vec Ideal S1x256 .f32) (X : Fin 256 → Fin 1536 → BitVec 8) (s : Fin 256 → EReal)
    (h18 : ∀ r l, v18 (ix2 r l) = s r) (hx : ∀ r k, x (ix2 r k) = num (X r k)) (r l : Fin 256) :
    k0_pay14 v18 x wg sg (ix2 r l) = lin (X r) (s r) (fun k => wg (ix2 k l)) (sg (ix2 0 l)) := by
  pointwise [k0_pay14]
  simp only [h18, hx, dite_eq_ite, ite_self]
  rfl

theorem pay15_apply (v18 : FVec Ideal S256x128 .f32) (x : Vec Ideal S256x1536 .bf16) (wg : Vec Ideal S1536x256 .i8)
    (sg : Vec Ideal S1x256 .f32) (X : Fin 256 → Fin 1536 → BitVec 8) (s : Fin 256 → EReal)
    (h18 : ∀ r l, v18 (ix2 r l) = s r) (hx : ∀ r k, x (ix2 r k) = num (X r k)) (r l : Fin 256) :
    k0_pay15 v18 x wg sg (ix2 r l) = lin (X r) (s r) (fun k => wg (ix2 k l)) (sg (ix2 0 l)) :=
  pay14_apply v18 x wg sg X s h18 hx r l

/-- `1 / (1 + 2 ^ (-g / ln 2))` is the logistic function of the gate. -/
theorem pay16_apply (v18 : FVec Ideal S256x128 .f32) (x : Vec Ideal S256x1536 .bf16) (wg : Vec Ideal S1536x256 .i8)
    (sg : Vec Ideal S1x256 .f32) (r l : Fin 256) :
    k0_pay16 v18 x wg sg (ix2 r l) = Ideal.logistic (k0_pay14 v18 x wg sg (ix2 r l)) := by
  pointwise [k0_pay16]
  rw [k_neg_log2e]
  exact logistic_exp2 _

/-- The gated activation of a chunk, as the last of a trip's three chunks computes it. -/
theorem pay23_apply (v18 : FVec Ideal S256x128 .f32) (x : Vec Ideal S256x1536 .bf16) (wg : Vec Ideal S1536x256 .i8)
    (sg : Vec Ideal S1x256 .f32) (x' : Vec Ideal S256x1536 .bf16) (wu : Vec Ideal S1536x256 .i8)
    (su : Vec Ideal S1x256 .f32) (X : Fin 256 → Fin 1536 → BitVec 8) (s : Fin 256 → EReal)
    (h18 : ∀ r l, v18 (ix2 r l) = s r) (hx : ∀ r k, x (ix2 r k) = num (X r k))
    (hx' : ∀ r k, x' (ix2 r k) = num (X r k)) (r l : Fin 256) :
    k0_pay23 (k0_pay14 v18 x wg sg) (k0_pay15 v18 x' wu su) (k0_pay16 v18 x wg sg) (ix2 r l) =
      gated (lin (X r) (s r) (fun k => wg (ix2 k l)) (sg (ix2 0 l)))
        (lin (X r) (s r) (fun k => wu (ix2 k l)) (su (ix2 0 l))) := by
  pointwise [k0_pay23]
  rw [pay16_apply, pay14_apply v18 x wg sg X s h18 hx, pay15_apply v18 x' wu su X s h18 hx']
  rfl

/-- The first chunk of a trip: the same computation written in one piece. -/
theorem pay8_eq (v18 : FVec Ideal S256x128 .f32) (x : Vec Ideal S256x1536 .bf16) (wg : Vec Ideal S1536x256 .i8)
    (sg : Vec Ideal S1x256 .f32) (x' : Vec Ideal S256x1536 .bf16) (wu : Vec Ideal S1536x256 .i8)
    (su : Vec Ideal S1x256 .f32) : k0_pay8 v18 x wg sg x' wu su =
      k0_pay23 (k0_pay14 v18 x wg sg) (k0_pay15 v18 x' wu su) (k0_pay16 v18 x wg sg) := rfl

theorem pay11_eq (v18 : FVec Ideal S256x128 .f32) (x : Vec Ideal S256x1536 .bf16) (wg : Vec Ideal S1536x256 .i8)
    (sg : Vec Ideal S1x256 .f32) (x' : Vec Ideal S256x1536 .bf16) (wu : Vec Ideal S1536x256 .i8)
    (su : Vec Ideal S1x256 .f32) : k0_pay11 v18 x wg sg x' wu su =
      k0_pay23 (k0_pay14 v18 x wg sg) (k0_pay15 v18 x' wu su) (k0_pay16 v18 x wg sg) := rfl

theorem pay9_eq (v18 : FVec Ideal S256x128 .f32) (x : Vec Ideal S256x1536 .bf16) (wg : Vec Ideal S1536x256 .i8)
    (sg : Vec Ideal S1x256 .f32) (x' : Vec Ideal S256x1536 .bf16) (wu : Vec Ideal S1536x256 .i8)
    (su : Vec Ideal S1x256 .f32) : k0_pay9 v18 x wg sg x' wu su =
      k0_pay23 (k0_pay14 v18 x wg sg) (k0_pay15 v18 x' wu su) (k0_pay16 v18 x wg sg) := by
  unfold k0_pay9; rw [shapeCast_self, pay8_eq]

theorem pay12_eq (v : FVec Ideal S256x256 .f32) : k0_pay12 v = v := by
  unfold k0_pay12; rw [shapeCast_self]

theorem pay24_eq (a b c : FVec Ideal S256x256 .f32) : k0_pay24 a b c = k0_pay23 a b c := by
  unfold k0_pay24; rw [shapeCast_self]

/-! ### The running maximum -/

/-- A chunk taken into the running maximum: both halves of the chunk's columns, by absolute value. -/
theorem pay10_apply (acc : FVec Ideal S256x128 .f32) (v : FVec Ideal S256x256 .f32) (r : Fin 256) (l : Fin 128) :
    k0_pay10 acc v (ix2 r l) = max (acc (ix2 r l))
      (max (mag (v (ix2 r ⟨l.val, by omega⟩))) (mag (v (ix2 r ⟨128 + l.val, by omega⟩)))) := by
  pointwise [k0_pay10]
  rfl

theorem pay13_eq (acc : FVec Ideal S256x128 .f32) (v : FVec Ideal S256x256 .f32) : k0_pay13 acc v = k0_pay10 acc v := rfl

theorem pay25_eq (acc : FVec Ideal S256x128 .f32) (a b c : FVec Ideal S256x256 .f32) :
    k0_pay25 acc a b c = k0_pay10 acc (k0_pay23 a b c) := rfl

theorem pay22_apply (r : Fin 256) (l : Fin 128) : (k0_pay22 (F := Ideal)) (ix2 r l) = (0 : EReal) := by
  pointwise [k0_pay22]

/-- The row codes as the numbers the products read. -/
theorem pay20_apply (x : Vec Ideal S256x1536 .i8) (r : Fin 256) (k : Fin 1536) :
    k0_pay20 (F := Ideal) x (ix2 r k) = num (x (ix2 r k)) := by
  unfold k0_pay20; rw [shapeCast_self]; rfl

end Cert.KernelIdeal.Hand

end
-- ==== Proof.KPay2.lean ====
/-
  THE ROW SCALES AND WHAT IS MADE OF THEM: the largest absolute value of a row folded over the 128 columns of the running
  maximum, the scale of the row, a scale spread over a block's rows, the codes, and the block of the result.
-/
module

public import proofs.«01_k».proof.Proof.KPay1

@[expose] public section

set_option maxRecDepth 16384

noncomputable section

namespace Cert.KernelIdeal.Hand

open Cert.KernelIdeal Cert.KernelIdeal.Gen Cert.Mlp Idealize.ShloMosaic Idealize.SL.Sem
open scoped BigOperators

/-! ### Sixteen copies of eight rows -/

/-- Sixteen copies of eight equal rows stacked: 128 equal rows. -/
theorem cat16_apply (v : FVec Ideal S8x128 .f32) (f : Fin 128 → EReal) (hv : ∀ s j, v (ix2 s j) = f j)
    (h : Shape.Concatenates ((List.replicate 16 (⟨S8x128, v⟩ : (s : Shape) × (s.Idx → Ideal .f32))).map (·.1)) S128x128 0)
    (p j : Fin 128) :
    concatenate S128x128 0 (List.replicate 16 (⟨S8x128, v⟩ : (s : Shape) × (s.Idx → Ideal .f32))) h (ix2 p j) = f j := by
  rw [concatenate_replicate_apply (s₁ := S8x128) (t := S128x128) 0 16 v h rfl (ix2 p j) (ix2 ⟨p.val % 8, Nat.mod_lt _ (by norm_num)⟩ j) rfl
    (by intro b hb
        match b, hb with
        | ⟨0, _⟩, hb => exact absurd rfl hb
        | ⟨1, _⟩, _ => rfl)]
  exact hv _ _

/-- A scale of every row: the rows' scales, spread over 128 columns. -/
theorem spread_apply (v w : FVec Ideal S8x128 .f32) (f : Fin 256 → EReal)
    (hv : ∀ s (j : Fin 128), v (ix2 s j) = f ⟨j.val, by omega⟩) (hw : ∀ s (j : Fin 128), w (ix2 s j) = f ⟨128 + j.val, by omega⟩)
    (h₁ : Shape.Concatenates ((List.replicate 16 (⟨S8x128, v⟩ : (s : Shape) × (s.Idx → Ideal .f32))).map (·.1)) S128x128 0)
    (h₂ : Shape.Concatenates ((List.replicate 16 (⟨S8x128, w⟩ : (s : Shape) × (s.Idx → Ideal .f32))).map (·.1)) S128x128 0)
    (r : Fin 256) (l : Fin 128) :
    concatenate S256x128 0 [⟨S128x128, transpose S128x128 [1, 0] (concatenate S128x128 0 (List.replicate 16 (⟨S8x128, v⟩ : (s : Shape) × (s.Idx → Ideal .f32))) h₁) transposes_S128x128_p1_0_S128x128⟩,
      ⟨S128x128, transpose S128x128 [1, 0] (concatenate S128x128 0 (List.replicate 16 (⟨S8x128, w⟩ : (s : Shape) × (s.Idx → Ideal .f32))) h₂) transposes_S128x128_p1_0_S128x128⟩]
      concatenates_S128x128_S128x128_S256x128_d0 (ix2 r l) = f r := by
  have e₁ := fun p j => cat16_apply v (fun j => f ⟨j.val, by omega⟩) hv h₁ p j
  have e₂ := fun p j => cat16_apply w (fun j => f ⟨128 + j.val, by omega⟩) hw h₂ p j
  generalize concatenate S128x128 0 (List.replicate 16 (⟨S8x128, v⟩ : (s : Shape) × (s.Idx → Ideal .f32))) h₁ = A at e₁ ⊢
  generalize concatenate S128x128 0 (List.replicate 16 (⟨S8x128, w⟩ : (s : Shape) × (s.Idx → Ideal .f32))) h₂ = B at e₂ ⊢
  pointwise []
  split
  · exact e₁ _ _
  · next h =>
    refine (e₂ _ _).trans (congrArg f (Fin.ext ?_))
    show 128 + (r.val - 128) = r.val
    omega

/-! ### The largest absolute value of a row -/

/-- Rotations by 4, 2 and 1 of eight values, each taken into the maximum, leave the maximum of the eight. -/
theorem fold8 (w : Fin 8 → EReal) (r : Fin 8) :
    max (max (max (w r) (w ⟨(r.val + 8 - 4) % 8, Nat.mod_lt _ (by norm_num)⟩))
        (max (w ⟨(r.val + 8 - 2) % 8, Nat.mod_lt _ (by norm_num)⟩) (w ⟨((r.val + 8 - 2) % 8 + 8 - 4) % 8, Nat.mod_lt _ (by norm_num)⟩)))
      (max (max (w ⟨(r.val + 8 - 1) % 8, Nat.mod_lt _ (by norm_num)⟩) (w ⟨((r.val + 8 - 1) % 8 + 8 - 4) % 8, Nat.mod_lt _ (by norm_num)⟩))
        (max (w ⟨((r.val + 8 - 1) % 8 + 8 - 2) % 8, Nat.mod_lt _ (by norm_num)⟩)
          (w ⟨(((r.val + 8 - 1) % 8 + 8 - 2) % 8 + 8 - 4) % 8, Nat.mod_lt _ (by norm_num)⟩)))
      = Finset.univ.sup w := by
  refine eq_of_forall_ge_iff fun b => ?_
  simp only [max_le_iff, Finset.sup_le_iff, Finset.mem_univ, true_implies]
  fin_cases r <;> simp only [Fin.forall_fin_succ, Fin.forall_fin_zero] <;> norm_num <;> (try simp [Fin.succ]) <;> tauto

/-- The scale from eight partial maxima. -/
theorem pay1_apply (a : FVec Ideal S128x128 .f32) (v : FVec Ideal S8x128 .f32) (r : Fin 8) (l : Fin 128) :
    k0_pay1 a v (ix2 r l) =
      scaleOf (Finset.univ.sup fun s : Fin 8 => max (v (ix2 s l)) (a (ix2 ⟨120 + s.val, by omega⟩ l))) := by
  pointwise [k0_pay1]
  rw [k_inv_127, mul_inv_127]
  have e := fold8 (fun s : Fin 8 => max (v (ix2 s l)) (a (ix2 ⟨120 + s.val, by omega⟩ l))) r
  rw [← e]
  rfl

set_option maxHeartbeats 4000000 in
theorem pay28_apply (a : FVec Ideal S128x128 .f32) (v : FVec Ideal S8x128 .f32) (r : Fin 8) (l : Fin 128) :
    k0_pay28 a v (ix2 r l) =
      scaleOf (Finset.univ.sup fun s : Fin 8 => max (max (max (max (v (ix2 s l)) (a (ix2 ⟨96 + s.val, by omega⟩ l)))
        (a (ix2 ⟨104 + s.val, by omega⟩ l))) (a (ix2 ⟨112 + s.val, by omega⟩ l))) (a (ix2 ⟨120 + s.val, by omega⟩ l))) := by
  pointwise [k0_pay28]
  rw [k_inv_127, mul_inv_127]
  have e := fold8 (fun s : Fin 8 => max (max (max (max (v (ix2 s l)) (a (ix2 ⟨96 + s.val, by omega⟩ l)))
        (a (ix2 ⟨104 + s.val, by omega⟩ l))) (a (ix2 ⟨112 + s.val, by omega⟩ l))) (a (ix2 ⟨120 + s.val, by omega⟩ l))) r
  exact congrArg scaleOf e

/-- Sixteen groups of eight are all of 128. -/
theorem forall_128 (P : ∀ n : ℕ, n < 128 → Prop) : (∀ q : Fin 128, P q.val q.isLt) ↔
    ∀ s : Fin 8, P s.val (by omega) ∧ P (8 + s.val) (by omega) ∧ P (16 + s.val) (by omega) ∧ P (24 + s.val) (by omega)
      ∧ P (32 + s.val) (by omega) ∧ P (40 + s.val) (by omega) ∧ P (48 + s.val) (by omega) ∧ P (56 + s.val) (by omega)
      ∧ P (64 + s.val) (by omega) ∧ P (72 + s.val) (by omega) ∧ P (80 + s.val) (by omega) ∧ P (88 + s.val) (by omega)
      ∧ P (96 + s.val) (by omega) ∧ P (104 + s.val) (by omega) ∧ P (112 + s.val) (by omega) ∧ P (120 + s.val) (by omega) := by
  constructor
  · intro h s
    exact ⟨h ⟨s.val, by omega⟩, h ⟨8 + s.val, by omega⟩, h ⟨16 + s.val, by omega⟩, h ⟨24 + s.val, by omega⟩, h ⟨32 + s.val, by omega⟩, h ⟨40 + s.val, by omega⟩, h ⟨48 + s.val, by omega⟩, h ⟨56 + s.val, by omega⟩, h ⟨64 + s.val, by omega⟩, h ⟨72 + s.val, by omega⟩, h ⟨80 + s.val, by omega⟩, h ⟨88 + s.val, by omega⟩, h ⟨96 + s.val, by omega⟩, h ⟨104 + s.val, by omega⟩, h ⟨112 + s.val, by omega⟩, h ⟨120 + s.val, by omega⟩⟩
  · rintro h ⟨q, hq⟩
    have hs := h ⟨q % 8, Nat.mod_lt _ (by norm_num)⟩
    have hm : q / 8 < 16 := by omega
    have e : q = 8 * (q / 8) + q % 8 := by omega
    have key : ∀ m, q / 8 = m → q = 8 * m + q % 8 := fun m hm => by omega
    generalize hd : q / 8 = m at hm
    have e' := key m hd
    have tr : ∀ n (hn : n < 128), q = n → P n hn → P q hq := by intro n hn e h; subst e; exact h
    obtain ⟨h0, h1, h2, h3, h4, h5, h6, h7, h8, h9, h10, h11, h12, h13, h14, h15⟩ := hs
    interval_cases m
    · exact tr _ _ (by simpa using e') h0
    · exact tr _ _ (by simpa using e') h1
    · exact tr _ _ (by simpa using e') h2
    · exact tr _ _ (by simpa using e') h3
    · exact tr _ _ (by simpa using e') h4
    · exact tr _ _ (by simpa using e') h5
    · exact tr _ _ (by simpa using e') h6
    · exact tr _ _ (by simpa using e') h7
    · exact tr _ _ (by simpa using e') h8
    · exact tr _ _ (by simpa using e') h9
    · exact tr _ _ (by simpa using e') h10
    · exact tr _ _ (by simpa using e') h11
    · exact tr _ _ (by simpa using e') h12
    · exact tr _ _ (by simpa using e') h13
    · exact tr _ _ (by simpa using e') h14
    · exact tr _ _ (by simpa using e') h15

/-- The scales of a block's first 128 rows. -/
theorem scaleA_apply (acc : FVec Ideal S256x128 .f32) (s : Fin 8) (j : Fin 128) :
    k0_pay28 (k0_pay26 acc) (k0_pay27 acc) (ix2 s j) =
      scaleOf (Finset.univ.sup fun q : Fin 128 => acc (ix2 ⟨j.val, by omega⟩ q)) := by
  rw [pay28_apply]
  congr 1
  refine eq_of_forall_ge_iff fun b => ?_
  have e26 : ∀ p, k0_pay26 acc (ix2 p j) = acc (ix2 ⟨j.val, by omega⟩ p) := fun p => by pointwise [k0_pay26]
  simp only [Finset.sup_le_iff, Finset.mem_univ, true_implies, e26]
  rw [forall_128 (fun n hn => acc (ix2 ⟨j.val, by omega⟩ ⟨n, hn⟩) ≤ b)]
  refine forall_congr' fun s => ?_
  pointwise [k0_pay27, k0_pay26]
  simp only [max_le_iff, and_assoc]

/-- The scales of a block's last 128 rows. -/
theorem scaleB_apply (acc : FVec Ideal S256x128 .f32) (s : Fin 8) (j : Fin 128) :
    k0_pay1 (k0_pay30 acc) (k0_pay31 acc) (ix2 s j) =
      scaleOf (Finset.univ.sup fun q : Fin 128 => acc (ix2 ⟨128 + j.val, by omega⟩ q)) := by
  rw [pay1_apply]
  congr 1
  refine eq_of_forall_ge_iff fun b => ?_
  have e30 : ∀ p, k0_pay30 acc (ix2 p j) = acc (ix2 ⟨128 + j.val, by omega⟩ p) := fun p => by pointwise [k0_pay30]
  simp only [Finset.sup_le_iff, Finset.mem_univ, true_implies, e30]
  rw [forall_128 (fun n hn => acc (ix2 ⟨128 + j.val, by omega⟩ ⟨n, hn⟩) ≤ b)]
  refine forall_congr' fun s => ?_
  pointwise [k0_pay31, k0_pay30]
  simp only [max_le_iff, and_assoc]

/-! ### Scales, codes and the result -/

/-- The row scales the block is given, spread over 128 columns. -/
theorem pay21_apply (v7 : Vec Ideal S2x128 .f32) (r : Fin 256) (l : Fin 128) :
    k0_pay21 v7 (ix2 r l) = v7 (ix2 ⟨r.val / 128, by omega⟩ ⟨r.val % 128, Nat.mod_lt _ (by norm_num)⟩) := by
  refine spread_apply _ _ (fun r => v7 (ix2 ⟨r.val / 128, by omega⟩ ⟨r.val % 128, Nat.mod_lt _ (by norm_num)⟩)) ?_ ?_ _ _ r l
  · intro s j
    pointwise []
    congr 2 <;> ext <;> simp <;> omega
  · intro s j
    pointwise []
    congr 2 <;> ext <;> simp <;> omega

/-- The scales of the two halves, spread over 128 columns. -/
theorem pay3_apply (v66 : FVec Ideal S8x128 .f32) (v70 : FVec Ideal S128x128 .f32) (v99 : FVec Ideal S8x128 .f32)
    (f : Fin 256 → EReal) (hv : ∀ s (j : Fin 128), v66 (ix2 s j) = f ⟨j.val, by omega⟩)
    (hw : ∀ s (j : Fin 128), k0_pay1 v70 v99 (ix2 s j) = f ⟨128 + j.val, by omega⟩) (r : Fin 256) (l : Fin 128) :
    k0_pay3 v66 v70 v99 (ix2 r l) = f r :=
  spread_apply v66 (k0_pay1 v70 v99) f hv hw _ _ r l

/-- The two rows of scales the block writes. -/
theorem pay2_apply (v66 : FVec Ideal S8x128 .f32) (v70 : FVec Ideal S128x128 .f32) (v99 : FVec Ideal S8x128 .f32)
    (f : Fin 256 → EReal) (hv : ∀ s (j : Fin 128), v66 (ix2 s j) = f ⟨j.val, by omega⟩)
    (hw : ∀ s (j : Fin 128), k0_pay1 v70 v99 (ix2 s j) = f ⟨128 + j.val, by omega⟩) (q : Fin 2) (j : Fin 128) :
    k0_pay2 v66 v70 v99 (ix2 q j) = f ⟨q.val * 128 + j.val, by omega⟩ := by
  pointwise [k0_pay2]
  split
  · next h =>
    rw [hv]; congr 2
    have : q.val = 0 := by omega
    omega
  · next h =>
    rw [hw]; congr 2
    have : q.val = 1 := by omega
    omega

/-- A row scale for every row, spread over 128 columns: the first half's and the second half's. -/
def spreadV (v w : FVec Ideal S8x128 .f32) : FVec Ideal S256x128 .f32 :=
  concatenate S256x128 0 [⟨S128x128, transpose S128x128 [1, 0] (concatenate S128x128 0 (List.replicate 16 (⟨S8x128, v⟩ : (s : Shape) × (s.Idx → Ideal .f32))) concatenates_S8x128_S8x128_S8x128_S8x128_S8x128_S8x128_S8x128_S8x128_S8x128_S8x128_S8x128_S8x128_S8x128_S8x128_S8x128_S8x128_S128x128_d0) transposes_S128x128_p1_0_S128x128⟩,
    ⟨S128x128, transpose S128x128 [1, 0] (concatenate S128x128 0 (List.replicate 16 (⟨S8x128, w⟩ : (s : Shape) × (s.Idx → Ideal .f32))) concatenates_S8x128_S8x128_S8x128_S8x128_S8x128_S8x128_S8x128_S8x128_S8x128_S8x128_S8x128_S8x128_S8x128_S8x128_S8x128_S8x128_S128x128_d0) transposes_S128x128_p1_0_S128x128⟩]
    concatenates_S128x128_S128x128_S256x128_d0

/-- What a chunk is made into from the spread reciprocals `A`: multiplied, clipped, rounded. -/
def quantV (A : FVec Ideal S256x128 .f32) (v : FVec Ideal S256x256 .f32) : FVec Ideal S256x256 .f32 :=
  roundeven (minimumf (broadcast S256x256 (Scalar.ofBits .f32 0x42FE0000#32)) (maximumf (broadcast S256x256 (Scalar.ofBits .f32 0xC2FE0000#32))
    (mulf v (concatenate S256x256 1 [⟨S256x128, A⟩, ⟨S256x128, A⟩] concatenates_S256x128_S256x128_S256x256_d1))))

theorem pay4_eq (v68 : FVec Ideal S8x128 .f32) (v70 : FVec Ideal S128x128 .f32)
    (v99 : FVec Ideal S8x128 .f32) (v : Vec Ideal S256x256 .f32) :
    k0_pay4 v68 v70 v99 v =
      quantV (spreadV v68 (divf (broadcast S8x128 (Scalar.ofBits .f32 0x3F800000#32)) (k0_pay1 v70 v99))) v := rfl

/-- The value a code is made of: the activation divided by its row's scale, rounded and clipped. -/
theorem pay4_apply (v23 : FVec Ideal S128x128 .f32) (v46 : FVec Ideal S8x128 .f32) (v70 : FVec Ideal S128x128 .f32)
    (v99 : FVec Ideal S8x128 .f32) (v : Vec Ideal S256x256 .f32) (f : Fin 256 → EReal) (hf : ∀ r, f r ≠ 0)
    (hv : ∀ s (j : Fin 128), k0_pay28 v23 v46 (ix2 s j) = f ⟨j.val, by omega⟩)
    (hw : ∀ s (j : Fin 128), k0_pay1 v70 v99 (ix2 s j) = f ⟨128 + j.val, by omega⟩) (r l : Fin 256) :
    k0_pay4 (k0_pay29 v23 v46) v70 v99 v (ix2 r l) = clip (Ideal.div (v (ix2 r l)) (f r)) := by
  have e : ∀ l, spreadV (k0_pay29 v23 v46) (divf (broadcast S8x128 (Scalar.ofBits .f32 0x3F800000#32)) (k0_pay1 v70 v99)) (ix2 r l)
      = Ideal.div 1 (f r) := fun l => spread_apply _ _ (fun r => Ideal.div 1 (f r))
    (by intro s j; pointwise [k0_pay29]; rw [hv])
    (by intro s j; pointwise []; rw [hw]) _ _ r l
  rw [← round_clip, ← mul_div_one (hf r), pay4_eq]
  generalize spreadV _ _ = A at e ⊢
  pointwise [quantV]
  simp only [e, dite_eq_ite, ite_self]
  rw [show Ideal.ofBits .f32 1123942400#32 = 127 from c_127, show Ideal.ofBits .f32 3271426048#32 = -127 from c_neg_127]

/-- The codes a chunk is stored in. -/
theorem pay5_apply (v68 : FVec Ideal S8x128 .f32) (v70 : FVec Ideal S128x128 .f32)
    (v99 : FVec Ideal S8x128 .f32) (v : Vec Ideal S256x256 .f32) (r l : Fin 256) :
    k0_pay5 v68 v70 v99 v (ix2 r l) = Ideal.fptosi 8 (k0_pay4 v68 v70 v99 v (ix2 r l)) := rfl

/-- The same codes, kept as the numbers they stand for. -/
theorem pay6_apply (v68 : FVec Ideal S8x128 .f32) (v70 : FVec Ideal S128x128 .f32)
    (v99 : FVec Ideal S8x128 .f32) (v : Vec Ideal S256x256 .f32) (r l : Fin 256) :
    k0_pay6 v68 v70 v99 v (ix2 r l) = k0_pay4 v68 v70 v99 v (ix2 r l) := by
  unfold k0_pay6; rw [shapeCast_self]; rfl

/-- A block of the result: the residual plus the codes times the last weights. -/
theorem pay17_apply (v123 : FVec Ideal S256x128 .f32) (q : Vec Ideal S256x6912 .bf16) (w : Vec Ideal S6912x256 .i8)
    (h : Vec Ideal S256x256 .f32) (sd : Vec Ideal S1x256 .f32) (Q : Fin 256 → Fin 6912 → BitVec 8) (f : Fin 256 → EReal)
    (h123 : ∀ r l, v123 (ix2 r l) = f r) (hq : ∀ r k, q (ix2 r k) = num (Q r k)) (r l : Fin 256) :
    k0_pay17 v123 q w h sd (ix2 r l) = h (ix2 r l) + lin (Q r) (f r) (fun k => w (ix2 k l)) (sd (ix2 0 l)) := by
  pointwise [k0_pay17]
  simp only [h123, hq, dite_eq_ite, ite_self]
  rfl

theorem pay7_eq (v123 : FVec Ideal S256x128 .f32) (q : Vec Ideal S256x6912 .bf16) (w : Vec Ideal S6912x256 .i8)
    (h : Vec Ideal S256x256 .f32) (sd : Vec Ideal S1x256 .f32) :
    k0_pay7 (k0_pay18 q w) h (k0_pay19 v123 sd) = k0_pay17 v123 q w h sd := rfl

end Cert.KernelIdeal.Hand

end
-- ==== Proof.KRect.lean ====
/-
  BLOCKS OF COLUMNS: a load or a store of all rows at a run of columns, read at an index; and what an array holds after
  stores that fill its columns from the left, each with the values one function of the index gives.
-/
module

public import Idealize.ShloMosaic.Lib.Writes
public import Idealize.ShloMosaic.Lib.WritesUnit
public import Idealize.ShloMosaic.Lib.Pipeline.FrameBody
public import Idealize.ShloMosaic.Lib.Pointwise
public import Idealize.ShloMosaic.Lib.Pipeline.ValueKit.Geometry

@[expose] public section

set_option maxRecDepth 16384

noncomputable section

namespace Cert.Cols

open Idealize.ShloMosaic Idealize.ShloMosaic.View

variable {sig : RefSig} {κ : Kind} {sp : Space} {e : EltTy} {Val : EltTy → Type}

/-- Where a block's index lies in the array. -/
theorem emb_ix2 {D C R S o p : ℕ} (off : Fin 2 → ℕ) (h : off = ![o, p])
    (inb : ∀ a : Fin 2, off a + (![R, S] : Fin 2 → ℕ) a ≤ (⟨2, ![D, C]⟩ : Shape).size a) (r : Fin R) (l : Fin S)
    (hr : o + r.val < D) (hl : p + l.val < C) :
    (Rect.unit (s := ⟨2, ![D, C]⟩) off ![R, S] inb).emb (ix2 r l) = ix2 ⟨o + r.val, hr⟩ ⟨p + l.val, hl⟩ := by
  subst h
  refine Rect.emb_eq_of_coords _ _ _ fun a => ?_
  match a with
  | ⟨0, _⟩ => simp
  | ⟨1, _⟩ => simp

/-- A load at an offset, read at an index. -/
theorem readAt_ix2 {D C R S o p : ℕ} (v : View sig κ sp ⟨2, ![D, C]⟩ e) (X : v.ty.Contents Val) (off : Fin 2 → ℕ)
    (h : off = ![o, p]) (inb : ∀ a : Fin 2, off a + (![R, S] : Fin 2 → ℕ) a ≤ (⟨2, ![D, C]⟩ : Shape).size a)
    (r : Fin R) (l : Fin S) (hr : o + r.val < D) (hl : p + l.val < C) :
    v.readAt Val (Rect.unit (s := ⟨2, ![D, C]⟩) off ![R, S] inb).toLoadRect X (ix2 r l) =
      v.read Val X (ix2 ⟨o + r.val, hr⟩ ⟨p + l.val, hl⟩) :=
  congrArg (v.read Val X) (emb_ix2 off h inb r l hr hl)

/-- A load of all rows at a run of columns, read at an index. -/
theorem readAt_cols {R C S p : ℕ} (v : View sig κ sp ⟨2, ![R, C]⟩ e) (X : v.ty.Contents Val) (off : Fin 2 → ℕ)
    (h : off = ![0, p]) (inb : ∀ a : Fin 2, off a + (![R, S] : Fin 2 → ℕ) a ≤ (⟨2, ![R, C]⟩ : Shape).size a)
    (r : Fin R) (l : Fin S) (hl : p + l.val < C) :
    v.readAt Val (Rect.unit (s := ⟨2, ![R, C]⟩) off ![R, S] inb).toLoadRect X (ix2 r l) =
      v.read Val X (ix2 r ⟨p + l.val, hl⟩) := by
  rw [readAt_ix2 v X off h inb r l (by omega) hl]
  congr 2; ext; simp

/-- The stores `L` fill the columns below `n`, with the values `G` gives. -/
def Fills {R C : ℕ} (L : List (View.Piece Val ⟨2, ![R, C]⟩ e)) (G : (⟨2, ![R, C]⟩ : Shape).Idx → Val e) (n : ℕ) : Prop :=
  (∀ p ∈ L, ∀ x : p.1.shape.Idx, p.2 x = G (p.1.emb x)) ∧
    ∀ y : (⟨2, ![R, C]⟩ : Shape).Idx, (y 1).val < n → ∃ p ∈ L, y ∈ p.1.set

theorem Fills.nil {R C : ℕ} (G : (⟨2, ![R, C]⟩ : Shape).Idx → Val e) : Fills [] G 0 :=
  ⟨fun p hp => absurd hp (List.not_mem_nil), fun y hy => absurd hy (Nat.not_lt_zero _)⟩

/-- One more store, at the next columns. -/
theorem Fills.cons {R C S n : ℕ} {L : List (View.Piece Val ⟨2, ![R, C]⟩ e)} {G : (⟨2, ![R, C]⟩ : Shape).Idx → Val e}
    (hL : Fills L G n) (off : Fin 2 → ℕ) (h : off = ![0, n])
    (inb : ∀ a : Fin 2, off a + (![R, S] : Fin 2 → ℕ) a ≤ (⟨2, ![R, C]⟩ : Shape).size a)
    (w : (⟨2, ![R, S]⟩ : Shape).Idx → Val e) (hn : n + S ≤ C)
    (hw : ∀ (r : Fin R) (l : Fin S), w (ix2 r l) = G (ix2 r ⟨n + l.val, by omega⟩)) :
    Fills (⟨Rect.unit (s := ⟨2, ![R, C]⟩) off ![R, S] inb, w⟩ :: L) G (n + S) := by
  constructor
  · intro p hp x
    rcases List.mem_cons.mp hp with rfl | hp
    · have hx : x = ix2 (x 0) (x 1) := eq_ix2 x
      have hx1 : (x 1).val < S := (x 1).isLt
      have hx0 : (x 0).val < R := (x 0).isLt
      show w x = G _
      rw [hx]
      refine (hw (x 0) (x 1)).trans (congrArg G ?_)
      refine Eq.trans ?_ (emb_ix2 off h inb (x 0) (x 1) (by omega) (by omega)).symm
      congr 1; ext; simp
    · exact hL.1 p hp x
  · intro y hy
    by_cases hlt : (y 1).val < n
    · obtain ⟨p, hp, hm⟩ := hL.2 y hlt
      exact ⟨p, List.mem_cons_of_mem _ hp, hm⟩
    · refine ⟨_, List.mem_cons_self, ?_⟩
      subst h
      rw [Rect.mem_set_unit]
      intro a
      match a with
      | ⟨0, _⟩ => exact ⟨Nat.zero_le _, by simpa using (y 0).isLt⟩
      | ⟨1, _⟩ => exact ⟨by simpa using hlt, by simpa using hy⟩

/-- What the array holds when the columns are filled. -/
theorem Fills.read {R C : ℕ} {L : List (View.Piece Val ⟨2, ![R, C]⟩ e)} {G : (⟨2, ![R, C]⟩ : Shape).Idx → Val e}
    (hL : Fills L G C) (v : View sig κ sp ⟨2, ![R, C]⟩ e) (f : v.ty.Contents Val) : v.read Val (v.writes Val f L) = G :=
  funext fun y => View.read_writes_apply_of_pieces v f G L hL.1 y (hL.2 y (y 1).isLt)

end Cert.Cols

end
-- ==== Proof.KLoop1.lean ====
/-
  THE FIRST LOOP: nine trips of three chunks of 256 columns. After it the activation of the block's 256 rows stands in the
  array of activations, and the running maximum bounds exactly what every column's absolute value bounds.
-/
module

public import proofs.«01_k».proof.Proof.KPay2
public import proofs.«01_k».proof.Proof.KRect
public import proofs.«01_k».proof.Proof.Gen.KernelIdeal.Loops

@[expose] public section

set_option maxRecDepth 16384

noncomputable section

namespace Cert.KernelIdeal.Hand

open Cert.KernelIdeal Cert.KernelIdeal.Gen Cert.Mlp Cert.Cols Idealize.ShloMosaic Idealize.SL.Sem
open Idealize.ShloMosaic.TcCoe
open scoped BigOperators

/-! ### The running maximum -/

/-- The running maximum `acc` has taken in the columns below `n`: a bound of it in column `l` is a nonnegative bound of the
    absolute values of the columns congruent to `l` modulo 128. -/
def AccInv (a : Fin 256 → Fin 6912 → EReal) (acc : FVec Ideal S256x128 .f32) (n : ℕ) : Prop :=
  ∀ (r : Fin 256) (l : Fin 128) (b : EReal), acc (ix2 r l) ≤ b ↔
    0 ≤ b ∧ ∀ m : Fin 6912, m.val < n → m.val % 128 = l.val → mag (a r m) ≤ b

theorem AccInv.zero (a : Fin 256 → Fin 6912 → EReal) : AccInv a (k0_pay22 (F := Ideal)) 0 := fun r l b => by
  rw [pay22_apply]
  exact ⟨fun h => ⟨h, fun m hm => absurd hm (Nat.not_lt_zero _)⟩, fun h => h.1⟩

/-- Taking in the next chunk. -/
theorem AccInv.step {a : Fin 256 → Fin 6912 → EReal} {acc : FVec Ideal S256x128 .f32} {n : ℕ} (h : AccInv a acc n)
    (hn : n + 256 ≤ 6912) (h128 : n % 128 = 0) (v : FVec Ideal S256x256 .f32)
    (hv : ∀ (r : Fin 256) (l : Fin 256), v (ix2 r l) = a r ⟨n + l.val, by omega⟩) : AccInv a (k0_pay10 acc v) (n + 256) := by
  intro r l b
  rw [pay10_apply, max_le_iff, max_le_iff, h r l b, hv, hv]
  constructor
  · rintro ⟨⟨h0, h1⟩, h2, h3⟩
    refine ⟨h0, fun m hm hl => ?_⟩
    by_cases hlt : m.val < n
    · exact h1 m hlt hl
    · by_cases hlo : m.val < n + 128
      · have e : m = ⟨n + l.val, by omega⟩ := Fin.ext (by show m.val = n + l.val; omega)
        rw [e]; exact h2
      · have e : m = ⟨n + (128 + l.val), by omega⟩ := Fin.ext (by show m.val = n + (128 + l.val); omega)
        rw [e]; exact h3
  · rintro ⟨h0, h1⟩
    refine ⟨⟨h0, fun m hm hl => h1 m (by omega) hl⟩, h1 _ ?_ ?_, h1 _ ?_ ?_⟩
    · show n + l.val < n + 256; omega
    · show (n + l.val) % 128 = l.val; omega
    · show n + (128 + l.val) < n + 256; omega
    · show (n + (128 + l.val)) % 128 = l.val; omega

/-- The 128 columns of the finished running maximum fold to the largest absolute value of the row. -/
theorem AccInv.sup {a : Fin 256 → Fin 6912 → EReal} {acc : FVec Ideal S256x128 .f32} (h : AccInv a acc 6912) (r : Fin 256) :
    (Finset.univ.sup fun q : Fin 128 => acc (ix2 r q)) = amax (a r) := by
  refine eq_of_forall_ge_iff fun b => ?_
  rw [amax_le_iff]
  simp only [Finset.sup_le_iff, Finset.mem_univ, true_implies]
  constructor
  · intro hb m
    exact ((h r ⟨m.val % 128, Nat.mod_lt _ (by norm_num)⟩ b).mp (hb _)).2 m m.isLt rfl
  · intro hb q
    exact (h r q b).mpr ⟨(mag_nonneg _).trans (hb 0), fun m _ _ => hb m⟩

/-! ### One trip -/

section Trip

variable (𝒱 : Variants) (c : Dev nD) (bd : Option 𝒱.V) (i : grid0.Coords) (arg1 : Memref sig .tc .vmem S256x1536 .i8) (harg1 : arg1.IsWhole) (arg2 : Memref sig .tc .vmem S32x128 .f32) (harg2 : arg2.IsWhole) (arg3 : Memref sig .tc .vmem S256x1536 .f32) (harg3 : arg3.IsWhole) (arg4 : Memref sig .tc .vmem S1536x6912 .i8) (harg4 : arg4.IsWhole) (arg5 : Memref sig .tc .vmem S1x6912 .f32) (harg5 : arg5.IsWhole) (arg6 : Memref sig .tc .vmem S1536x6912 .i8) (harg6 : arg6.IsWhole) (arg7 : Memref sig .tc .vmem S1x6912 .f32) (harg7 : arg7.IsWhole) (arg8 : Memref sig .tc .vmem S6912x1536 .i8) (harg8 : arg8.IsWhole) (arg9 : Memref sig .tc .vmem S1x1536 .f32) (harg9 : arg9.IsWhole) (arg10 : Memref sig .tc .vmem S256x1536 .bf16) (harg10 : arg10.IsWhole) (arg11 : Memref sig .tc .vmem S256x6912 .i8) (harg11 : arg11.IsWhole) (arg12 : Memref sig .tc .vmem S32x128 .f32) (harg12 : arg12.IsWhole) (arg13 : Memref sig .tc .vmem S256x6912 .f32) (harg13 : arg13.IsWhole) (arg14 : Memref sig .tc .vmem S256x1536 .bf16) (harg14 : arg14.IsWhole) (arg15 : Memref sig .tc .vmem S256x6912 .bf16) (harg15 : arg15.IsWhole)
variable (v7 : Vec Ideal S2x128 .f32) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X14 : BufTy.Contents (Elt Ideal) arg14.view.ty)

/-- What trip `k` stores at its chunk `j`. -/
def chunk (k : Fin k0_t1_loop.trips) (j : Fin 3) : FVec Ideal S256x256 .f32 :=
  k0_pay23
    (k0_pay14 (k0_pay21 v7) (arg14.view.readAt (Elt Ideal) (Rect.unit (s := S256x1536) ![0, 0] S256x1536.size inb_S256x1536_S256x1536_0_0).toLoadRect X14)
      (arg4.view.readAt (Elt Ideal) (Rect.unit (s := S1536x6912) (k0_off2 k (BitVec.ofNat 32 j.val)) S1536x256.size (k0_off2_inb k j)).toLoadRect X4)
      (arg5.view.readAt (Elt Ideal) (Rect.unit (s := S1x6912) (k0_off3 k (BitVec.ofNat 32 j.val)) S1x256.size (k0_off3_inb k j)).toLoadRect X5))
    (k0_pay15 (k0_pay21 v7) (arg14.view.readAt (Elt Ideal) (Rect.unit (s := S256x1536) ![0, 0] S256x1536.size inb_S256x1536_S256x1536_0_0).toLoadRect X14)
      (arg6.view.readAt (Elt Ideal) (Rect.unit (s := S1536x6912) (k0_off2 k (BitVec.ofNat 32 j.val)) S1536x256.size (k0_off2_inb k j)).toLoadRect X6)
      (arg7.view.readAt (Elt Ideal) (Rect.unit (s := S1x6912) (k0_off3 k (BitVec.ofNat 32 j.val)) S1x256.size (k0_off3_inb k j)).toLoadRect X7))
    (k0_pay16 (k0_pay21 v7) (arg14.view.readAt (Elt Ideal) (Rect.unit (s := S256x1536) ![0, 0] S256x1536.size inb_S256x1536_S256x1536_0_0).toLoadRect X14)
      (arg4.view.readAt (Elt Ideal) (Rect.unit (s := S1536x6912) (k0_off2 k (BitVec.ofNat 32 j.val)) S1536x256.size (k0_off2_inb k j)).toLoadRect X4)
      (arg5.view.readAt (Elt Ideal) (Rect.unit (s := S1x6912) (k0_off3 k (BitVec.ofNat 32 j.val)) S1x256.size (k0_off3_inb k j)).toLoadRect X5))

/-- A trip takes its three chunks into the running maximum … -/
theorem trip1R (k : Fin k0_t1_loop.trips) (acc : FVec Ideal S256x128 .f32) :
    tripR_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v7 X4 X5 X6 X7 X14 k acc =
      k0_pay10 (k0_pay10 (k0_pay10 acc (chunk arg4 arg5 arg6 arg7 arg14 v7 X4 X5 X6 X7 X14 k 0))
        (chunk arg4 arg5 arg6 arg7 arg14 v7 X4 X5 X6 X7 X14 k 1)) (chunk arg4 arg5 arg6 arg7 arg14 v7 X4 X5 X6 X7 X14 k 2) := by
  unfold tripR_k0_t1 trip_k0_t1
  rfl

/-- … and stores them. -/
theorem trip1L (k : Fin k0_t1_loop.trips) (acc : FVec Ideal S256x128 .f32) :
    tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v7 X4 X5 X6 X7 X14 k acc =
      [⟨Rect.unit (s := S256x6912) (k0_off4 k (BitVec.ofNat 32 (2 : Fin 3).val)) S256x256.size (k0_off4_inb k 2), chunk arg4 arg5 arg6 arg7 arg14 v7 X4 X5 X6 X7 X14 k 2⟩,
       ⟨Rect.unit (s := S256x6912) (k0_off4 k (BitVec.ofNat 32 (1 : Fin 3).val)) S256x256.size (k0_off4_inb k 1), chunk arg4 arg5 arg6 arg7 arg14 v7 X4 X5 X6 X7 X14 k 1⟩,
       ⟨Rect.unit (s := S256x6912) (k0_off4 k (BitVec.ofNat 32 (0 : Fin 3).val)) S256x256.size (k0_off4_inb k 0), chunk arg4 arg5 arg6 arg7 arg14 v7 X4 X5 X6 X7 X14 k 0⟩] := by
  unfold tripL_k0_t1 trip_k0_t1
  dsimp only
  rw [pay24_eq, pay12_eq, pay9_eq]
  rfl

/-- A chunk is the activation at its columns. -/
theorem chunk_apply (X : Fin 256 → Fin 1536 → BitVec 8) (s : Fin 256 → EReal)
    (h7 : ∀ r l, k0_pay21 v7 (ix2 r l) = s r) (h14 : ∀ r k, arg14.view.read (Elt Ideal) X14 (ix2 r k) = num (X r k))
    (k : Fin k0_t1_loop.trips) (j : Fin 3) (r l : Fin 256) (hl : 768 * k.val + 256 * j.val + l.val < 6912) :
    chunk arg4 arg5 arg6 arg7 arg14 v7 X4 X5 X6 X7 X14 k j (ix2 r l) =
      act (X r) (s r) (fun k n => arg4.view.read (Elt Ideal) X4 (ix2 k n)) (fun n => arg5.view.read (Elt Ideal) X5 (ix2 0 n))
        (fun k n => arg6.view.read (Elt Ideal) X6 (ix2 k n)) (fun n => arg7.view.read (Elt Ideal) X7 (ix2 0 n))
        ⟨768 * k.val + 256 * j.val + l.val, hl⟩ := by
  have hx : ∀ (r : Fin 256) (k : Fin 1536), (arg14.view.readAt (Elt Ideal) (Rect.unit (s := S256x1536) ![0, 0] S256x1536.size inb_S256x1536_S256x1536_0_0).toLoadRect X14) (ix2 r k) = num (X r k) := by
    intro r k
    refine (readAt_cols arg14.view X14 _ rfl _ r k (by omega)).trans ?_
    rw [← h14]; congr 2; ext; simp
  unfold chunk
  rw [pay23_apply _ _ _ _ _ _ _ X s h7 hx hx]
  unfold act
  congr 2
  · funext q; exact readAt_cols arg4.view X4 _ (k0_off2_eq k j) _ q l hl
  · exact readAt_cols arg5.view X5 _ (k0_off3_eq k j) _ 0 l hl
  · funext q; exact readAt_cols arg6.view X6 _ (k0_off2_eq k j) _ q l hl
  · exact readAt_cols arg7.view X7 _ (k0_off3_eq k j) _ 0 l hl

/-! ### All trips -/

/-- After `k` trips. -/
theorem loop1_upto (X : Fin 256 → Fin 1536 → BitVec 8) (s : Fin 256 → EReal) (a : Fin 256 → Fin 6912 → EReal)
    (ha : ∀ r n, a r n = act (X r) (s r) (fun k n => arg4.view.read (Elt Ideal) X4 (ix2 k n)) (fun n => arg5.view.read (Elt Ideal) X5 (ix2 0 n))
        (fun k n => arg6.view.read (Elt Ideal) X6 (ix2 k n)) (fun n => arg7.view.read (Elt Ideal) X7 (ix2 0 n)) n)
    (h7 : ∀ r l, k0_pay21 v7 (ix2 r l) = s r) (h14 : ∀ r k, arg14.view.read (Elt Ideal) X14 (ix2 r k) = num (X r k)) :
    ∀ k : ℕ, k ≤ 9 →
      AccInv a (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v7 X4 X5 X6 X7 X14 (k0_pay22 (F := Ideal)) k).1 (768 * k) ∧
      Fills (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v7 X4 X5 X6 X7 X14 (k0_pay22 (F := Ideal)) k).2
        (fun y : S256x6912.Idx => (a (y 0) (y 1) : Ideal .f32)) (768 * k) := by
  intro k
  induction k with
  | zero =>
    intro _
    rw [st_k0_t1_zero]
    exact ⟨AccInv.zero a, Fills.nil _⟩
  | succ k ih =>
    intro hk
    obtain ⟨hA, hF⟩ := ih (by omega)
    have hkt : k < k0_t1_loop.trips := by
      have e : k0_t1_loop.trips = 9 := by decide +kernel
      omega
    have hs := st_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v7 X4 X5 X6 X7 X14 (k0_pay22 (F := Ideal)) ⟨k, hkt⟩
    dsimp only at hs
    rw [hs]
    dsimp only
    rw [trip1R, trip1L]
    generalize (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v7 X4 X5 X6 X7 X14 (k0_pay22 (F := Ideal)) k) = prev at hA hF ⊢
    have hc : ∀ (j : Fin 3) (r l : Fin 256), chunk arg4 arg5 arg6 arg7 arg14 v7 X4 X5 X6 X7 X14 ⟨k, hkt⟩ j (ix2 r l) =
        a r ⟨768 * k + 256 * j.val + l.val, by omega⟩ := fun j r l => by
      rw [ha]; exact chunk_apply arg4 arg5 arg6 arg7 arg14 v7 X4 X5 X6 X7 X14 X s h7 h14 ⟨k, hkt⟩ j r l _
    constructor
    · have h1 := hA.step (by omega) (by omega) _ (hc 0)
      have h2 := h1.step (by omega) (by omega) _ (hc 1)
      have h3 := h2.step (by omega) (by omega) _ (hc 2)
      exact h3
    · have h1 := hF.cons (S := 256) _ (k0_off4_eq ⟨k, hkt⟩ 0) (k0_off4_inb ⟨k, hkt⟩ 0) (chunk arg4 arg5 arg6 arg7 arg14 v7 X4 X5 X6 X7 X14 ⟨k, hkt⟩ 0) (by omega) (hc 0)
      have h2 := h1.cons (S := 256) _ (k0_off4_eq ⟨k, hkt⟩ 1) (k0_off4_inb ⟨k, hkt⟩ 1) (chunk arg4 arg5 arg6 arg7 arg14 v7 X4 X5 X6 X7 X14 ⟨k, hkt⟩ 1) (by omega) (hc 1)
      have h3 := h2.cons (S := 256) _ (k0_off4_eq ⟨k, hkt⟩ 2) (k0_off4_inb ⟨k, hkt⟩ 2) (chunk arg4 arg5 arg6 arg7 arg14 v7 X4 X5 X6 X7 X14 ⟨k, hkt⟩ 2) (by omega) (hc 2)
      exact h3

end Trip

end Cert.KernelIdeal.Hand

end
-- ==== Proof.KLoop2.lean ====
/-
  THE SECOND AND THE THIRD LOOP: 27 trips quantise a chunk of 256 columns each, 3 trips compute two chunks of 256 columns
  of the result each.
-/
module

public import proofs.«01_k».proof.Proof.KPay2
public import proofs.«01_k».proof.Proof.KRect
public import proofs.«01_k».proof.Proof.Gen.KernelIdeal.Loops

@[expose] public section

set_option maxRecDepth 16384

noncomputable section

namespace Cert.KernelIdeal.Hand

open Cert.KernelIdeal Cert.KernelIdeal.Gen Cert.Mlp Cert.Cols Idealize.ShloMosaic Idealize.SL.Sem
open Idealize.ShloMosaic.TcCoe
open scoped BigOperators

section Loops

variable (𝒱 : Variants) (c : Dev nD) (bd : Option 𝒱.V) (i : grid0.Coords) (arg1 : Memref sig .tc .vmem S256x1536 .i8) (harg1 : arg1.IsWhole) (arg2 : Memref sig .tc .vmem S32x128 .f32) (harg2 : arg2.IsWhole) (arg3 : Memref sig .tc .vmem S256x1536 .f32) (harg3 : arg3.IsWhole) (arg4 : Memref sig .tc .vmem S1536x6912 .i8) (harg4 : arg4.IsWhole) (arg5 : Memref sig .tc .vmem S1x6912 .f32) (harg5 : arg5.IsWhole) (arg6 : Memref sig .tc .vmem S1536x6912 .i8) (harg6 : arg6.IsWhole) (arg7 : Memref sig .tc .vmem S1x6912 .f32) (harg7 : arg7.IsWhole) (arg8 : Memref sig .tc .vmem S6912x1536 .i8) (harg8 : arg8.IsWhole) (arg9 : Memref sig .tc .vmem S1x1536 .f32) (harg9 : arg9.IsWhole) (arg10 : Memref sig .tc .vmem S256x1536 .bf16) (harg10 : arg10.IsWhole) (arg11 : Memref sig .tc .vmem S256x6912 .i8) (harg11 : arg11.IsWhole) (arg12 : Memref sig .tc .vmem S32x128 .f32) (harg12 : arg12.IsWhole) (arg13 : Memref sig .tc .vmem S256x6912 .f32) (harg13 : arg13.IsWhole) (arg14 : Memref sig .tc .vmem S256x1536 .bf16) (harg14 : arg14.IsWhole) (arg15 : Memref sig .tc .vmem S256x6912 .bf16) (harg15 : arg15.IsWhole)

/-! ### Quantising -/

/-- What trip `k` of the second loop stores. -/
theorem trip2 (v68 : FVec Ideal S8x128 .f32) (v70 : FVec Ideal S128x128 .f32) (v99 : FVec Ideal S8x128 .f32)
    (X13 : BufTy.Contents (Elt Ideal) arg13.view.ty) (k : Fin k0_t2_loop.trips) :
    tripL_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v68 v70 v99 X13 k =
      ([⟨Rect.unit (s := S256x6912) (k0_off5 k) S256x256.size (k0_off5_inb k),
          k0_pay5 v68 v70 v99 (arg13.view.readAt (Elt Ideal) (Rect.unit (s := S256x6912) (k0_off5 k) S256x256.size (k0_off5_inb k)).toLoadRect X13)⟩],
       [⟨Rect.unit (s := S256x6912) (k0_off5 k) S256x256.size (k0_off5_inb k),
          k0_pay6 v68 v70 v99 (arg13.view.readAt (Elt Ideal) (Rect.unit (s := S256x6912) (k0_off5 k) S256x256.size (k0_off5_inb k)).toLoadRect X13)⟩]) := by
  unfold tripL_k0_t2 trip_k0_t2
  rfl

/-- After `k` trips the codes, and the numbers they stand for, fill the columns below `256 k`. -/
theorem loop2_upto (v23 : FVec Ideal S128x128 .f32) (v46 : FVec Ideal S8x128 .f32) (v70 : FVec Ideal S128x128 .f32) (v99 : FVec Ideal S8x128 .f32)
    (X13 : BufTy.Contents (Elt Ideal) arg13.view.ty) (a : Fin 256 → Fin 6912 → EReal) (f : Fin 256 → EReal) (hf : ∀ r, f r ≠ 0)
    (hv : ∀ s (j : Fin 128), k0_pay28 v23 v46 (ix2 s j) = f ⟨j.val, by omega⟩)
    (hw : ∀ s (j : Fin 128), k0_pay1 v70 v99 (ix2 s j) = f ⟨128 + j.val, by omega⟩)
    (h13 : ∀ r n, arg13.view.read (Elt Ideal) X13 (ix2 r n) = a r n) :
    ∀ k : ℕ, k ≤ 27 →
      Fills (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 (k0_pay29 v23 v46) v70 v99 X13 k).1
        (fun y : S256x6912.Idx => (code (a (y 0) (y 1)) (f (y 0)) : BitVec 8)) (256 * k) ∧
      Fills (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 (k0_pay29 v23 v46) v70 v99 X13 k).2
        (fun y : S256x6912.Idx => (num (code (a (y 0) (y 1)) (f (y 0))) : Ideal .bf16)) (256 * k) := by
  intro k
  induction k with
  | zero => intro _; exact ⟨Fills.nil _, Fills.nil _⟩
  | succ k ih =>
    intro hk
    obtain ⟨hA, hB⟩ := ih (by omega)
    have hkt : k < k0_t2_loop.trips := by
      have e : k0_t2_loop.trips = 27 := by decide +kernel
      omega
    have hs := pb_k0_t2_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 (k0_pay29 v23 v46) v70 v99 X13 ⟨k, hkt⟩
    rw [trip2] at hs
    dsimp only at hs
    rw [hs]
    generalize (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 (k0_pay29 v23 v46) v70 v99 X13 k) = prev at hA hB ⊢
    have hc : ∀ (r l : Fin 256), k0_pay4 (k0_pay29 v23 v46) v70 v99 (arg13.view.readAt (Elt Ideal) (Rect.unit (s := S256x6912) (k0_off5 ⟨k, hkt⟩) S256x256.size (k0_off5_inb ⟨k, hkt⟩)).toLoadRect X13) (ix2 r l)
        = clip (Ideal.div (a r ⟨256 * k + l.val, by omega⟩) (f r)) := fun r l => by
      rw [pay4_apply v23 v46 v70 v99 _ f hf hv hw, ← h13]
      congr 2
      exact readAt_cols arg13.view X13 _ (k0_off5_eq ⟨k, hkt⟩) _ r l _
    constructor
    · refine hA.cons (S := 256) _ (k0_off5_eq ⟨k, hkt⟩) (k0_off5_inb ⟨k, hkt⟩) _ (by omega) fun r l => ?_
      rw [pay5_apply, hc]
      rfl
    · refine hB.cons (S := 256) _ (k0_off5_eq ⟨k, hkt⟩) (k0_off5_inb ⟨k, hkt⟩) _ (by omega) fun r l => ?_
      rw [pay6_apply, hc]
      exact (num_fptosi_clip _).symm

/-! ### The result -/

/-- What trip `k` of the third loop stores at its chunk `j`. -/
def outChunk (v123 : FVec Ideal S256x128 .f32) (X3 : BufTy.Contents (Elt Ideal) arg3.view.ty) (X8 : BufTy.Contents (Elt Ideal) arg8.view.ty)
    (X9 : BufTy.Contents (Elt Ideal) arg9.view.ty) (X15 : BufTy.Contents (Elt Ideal) arg15.view.ty) (k : Fin k0_t3_loop.trips) (j : Fin 2) : FVec Ideal S256x256 .bf16 :=
  k0_pay17 v123 (arg15.view.readAt (Elt Ideal) (Rect.unit (s := S256x6912) ![0, 0] S256x6912.size inb_S256x6912_S256x6912_0_0).toLoadRect X15)
    (arg8.view.readAt (Elt Ideal) (Rect.unit (s := S6912x1536) (k0_off6 k (BitVec.ofNat 32 j.val)) S6912x256.size (k0_off6_inb k j)).toLoadRect X8)
    (arg3.view.readAt (Elt Ideal) (Rect.unit (s := S256x1536) (k0_off7 k (BitVec.ofNat 32 j.val)) S256x256.size (k0_off7_inb k j)).toLoadRect X3)
    (arg9.view.readAt (Elt Ideal) (Rect.unit (s := S1x1536) (k0_off8 k (BitVec.ofNat 32 j.val)) S1x256.size (k0_off8_inb k j)).toLoadRect X9)

theorem trip3 (v66 : FVec Ideal S8x128 .f32) (v70 : FVec Ideal S128x128 .f32) (v99 : FVec Ideal S8x128 .f32) (X3 : BufTy.Contents (Elt Ideal) arg3.view.ty)
    (X8 : BufTy.Contents (Elt Ideal) arg8.view.ty) (X9 : BufTy.Contents (Elt Ideal) arg9.view.ty) (X15 : BufTy.Contents (Elt Ideal) arg15.view.ty) (k : Fin k0_t3_loop.trips) :
    tripL_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v66 v70 v99 X3 X8 X9 X15 k =
      [⟨Rect.unit (s := S256x1536) (k0_off7 k (BitVec.ofNat 32 (1 : Fin 2).val)) S256x256.size (k0_off7_inb k 1), outChunk arg3 arg8 arg9 arg15 (k0_pay3 v66 v70 v99) X3 X8 X9 X15 k 1⟩,
       ⟨Rect.unit (s := S256x1536) (k0_off7 k (BitVec.ofNat 32 (0 : Fin 2).val)) S256x256.size (k0_off7_inb k 0), outChunk arg3 arg8 arg9 arg15 (k0_pay3 v66 v70 v99) X3 X8 X9 X15 k 0⟩] := by
  unfold tripL_k0_t3 trip_k0_t3
  rfl

theorem outChunk_apply (v123 : FVec Ideal S256x128 .f32) (X3 : BufTy.Contents (Elt Ideal) arg3.view.ty)
    (X8 : BufTy.Contents (Elt Ideal) arg8.view.ty) (X9 : BufTy.Contents (Elt Ideal) arg9.view.ty) (X15 : BufTy.Contents (Elt Ideal) arg15.view.ty)
    (Q : Fin 256 → Fin 6912 → BitVec 8) (f : Fin 256 → EReal)
    (h123 : ∀ r l, v123 (ix2 r l) = f r) (h15 : ∀ r k, arg15.view.read (Elt Ideal) X15 (ix2 r k) = num (Q r k))
    (k : Fin k0_t3_loop.trips) (j : Fin 2) (r l : Fin 256) (hl : 512 * k.val + 256 * j.val + l.val < 1536) :
    outChunk arg3 arg8 arg9 arg15 v123 X3 X8 X9 X15 k j (ix2 r l) =
      arg3.view.read (Elt Ideal) X3 (ix2 r ⟨512 * k.val + 256 * j.val + l.val, hl⟩) +
        lin (Q r) (f r) (fun q => arg8.view.read (Elt Ideal) X8 (ix2 q ⟨512 * k.val + 256 * j.val + l.val, hl⟩))
          (arg9.view.read (Elt Ideal) X9 (ix2 0 ⟨512 * k.val + 256 * j.val + l.val, hl⟩)) := by
  have hx : ∀ (r : Fin 256) (k : Fin 6912), (arg15.view.readAt (Elt Ideal) (Rect.unit (s := S256x6912) ![0, 0] S256x6912.size inb_S256x6912_S256x6912_0_0).toLoadRect X15) (ix2 r k) = num (Q r k) := by
    intro r k
    refine (readAt_cols arg15.view X15 _ rfl _ r k (by omega)).trans ?_
    rw [← h15]; congr 2; ext; simp
  unfold outChunk
  rw [pay17_apply _ _ _ _ _ Q f h123 hx]
  congr 2
  · exact readAt_cols arg3.view X3 _ (k0_off7_eq k j) _ r l hl
  · funext q; exact readAt_cols arg8.view X8 _ (k0_off6_eq k j) _ q l hl
  · exact readAt_cols arg9.view X9 _ (k0_off8_eq k j) _ 0 l hl

/-- After `k` trips the result fills the columns below `512 k`. -/
theorem loop3_upto (v66 : FVec Ideal S8x128 .f32) (v70 : FVec Ideal S128x128 .f32) (v99 : FVec Ideal S8x128 .f32) (X3 : BufTy.Contents (Elt Ideal) arg3.view.ty)
    (X8 : BufTy.Contents (Elt Ideal) arg8.view.ty) (X9 : BufTy.Contents (Elt Ideal) arg9.view.ty) (X15 : BufTy.Contents (Elt Ideal) arg15.view.ty)
    (Q : Fin 256 → Fin 6912 → BitVec 8) (f : Fin 256 → EReal)
    (h123 : ∀ r l, k0_pay3 v66 v70 v99 (ix2 r l) = f r) (h15 : ∀ r k, arg15.view.read (Elt Ideal) X15 (ix2 r k) = num (Q r k)) :
    ∀ k : ℕ, k ≤ 3 →
      Fills (pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v66 v70 v99 X3 X8 X9 X15 k)
        (fun y : S256x1536.Idx => (arg3.view.read (Elt Ideal) X3 (ix2 (y 0) (y 1)) +
          lin (Q (y 0)) (f (y 0)) (fun q => arg8.view.read (Elt Ideal) X8 (ix2 q (y 1))) (arg9.view.read (Elt Ideal) X9 (ix2 0 (y 1))) : Ideal .bf16)) (512 * k) := by
  intro k
  induction k with
  | zero => intro _; exact Fills.nil _
  | succ k ih =>
    intro hk
    have hA := ih (by omega)
    have hkt : k < k0_t3_loop.trips := by
      have e : k0_t3_loop.trips = 3 := by decide +kernel
      omega
    have hs := pb_k0_t3_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v66 v70 v99 X3 X8 X9 X15 ⟨k, hkt⟩
    dsimp only at hs
    rw [hs, trip3]
    generalize (pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v66 v70 v99 X3 X8 X9 X15 k) = prev at hA ⊢
    have h1 := hA.cons (S := 256) _ (k0_off7_eq ⟨k, hkt⟩ 0) (k0_off7_inb ⟨k, hkt⟩ 0) (outChunk arg3 arg8 arg9 arg15 (k0_pay3 v66 v70 v99) X3 X8 X9 X15 ⟨k, hkt⟩ 0) (by omega)
      (fun r l => outChunk_apply arg3 arg8 arg9 arg15 _ X3 X8 X9 X15 Q f h123 h15 ⟨k, hkt⟩ 0 r l _)
    have h2 := h1.cons (S := 256) _ (k0_off7_eq ⟨k, hkt⟩ 1) (k0_off7_inb ⟨k, hkt⟩ 1) (outChunk arg3 arg8 arg9 arg15 (k0_pay3 v66 v70 v99) X3 X8 X9 X15 ⟨k, hkt⟩ 1) (by omega)
      (fun r l => outChunk_apply arg3 arg8 arg9 arg15 _ X3 X8 X9 X15 Q f h123 h15 ⟨k, hkt⟩ 1 r l _)
    exact h2

end Loops

end Cert.KernelIdeal.Hand

end
-- ==== Proof.KVal.lean ====
/-
  THE VALUES OF ONE BLOCK: what the loops leave, put together — the scales from the finished running maximum, the codes, and
  the result, each as the row's specification names it.
-/
module

public import proofs.«01_k».proof.Proof.KBlock
public import proofs.«01_k».proof.Proof.KLoop1
public import proofs.«01_k».proof.Proof.KLoop2
public import Idealize.ShloMosaic.Lib.WritesUnit

@[expose] public section

set_option maxRecDepth 16384

noncomputable section

namespace Cert.KernelIdeal.Hand

open Cert.KernelIdeal Cert.KernelIdeal.Gen Cert.Mlp Cert.Cols Idealize.ShloMosaic Idealize.SL.Sem
open Idealize.ShloMosaic.TcCoe

/-! ### The scales -/

section Scale

variable {a : Fin 256 → Fin 6912 → EReal} {v21 : FVec Ideal S256x128 .f32} (hacc : AccInv a v21 6912)

include hacc

theorem scale_lo (s : Fin 8) (j : Fin 128) : k0_pay28 (k0_pay26 v21) (k0_pay27 v21) (ix2 s j) = rowScale (a ⟨j.val, by omega⟩) := by
  rw [scaleA_apply, hacc.sup]; rfl

theorem scale_hi (s : Fin 8) (j : Fin 128) : k0_pay1 (k0_pay30 v21) (k0_pay31 v21) (ix2 s j) = rowScale (a ⟨128 + j.val, by omega⟩) := by
  rw [scaleB_apply, hacc.sup]; rfl

/-- The scale spread over the lanes of its row. -/
theorem scale_rows (r : Fin 256) (l : Fin 128) :
    k0_pay3 (k0_pay28 (k0_pay26 v21) (k0_pay27 v21)) (k0_pay30 v21) (k0_pay31 v21) (ix2 r l) = rowScale (a r) :=
  pay3_apply _ _ _ (fun r => rowScale (a r)) (scale_lo hacc) (scale_hi hacc) r l

/-- The two rows of scales that are stored. -/
theorem scale_two (q : Fin 2) (j : Fin 128) :
    k0_pay2 (k0_pay28 (k0_pay26 v21) (k0_pay27 v21)) (k0_pay30 v21) (k0_pay31 v21) (ix2 q j) = rowScale (a ⟨q.val * 128 + j.val, by omega⟩) :=
  pay2_apply _ _ _ (fun r => rowScale (a r)) (scale_lo hacc) (scale_hi hacc) q j

end Scale

theorem off1_eq (i : grid0.Coords) : k0_off1 i = ![2 * (stepOf i).val, 0] := k0_off1_eq i

/-- The store of the two rows. -/
theorem scale_store (x0 : Vec Ideal S256x1536 .i8) (x1 : Vec Ideal S32x128 .f32) (x3 : Vec Ideal S1536x6912 .i8)
    (x4 : Vec Ideal S1x6912 .f32) (x5 : Vec Ideal S1536x6912 .i8) (x6 : Vec Ideal S1x6912 .f32) (i : grid0.Coords)
    {v21 : FVec Ideal S256x128 .f32} (hacc : AccInv (actBlk x0 x1 x3 x4 x5 x6 i) v21 6912)
    (v : View sig .tc .vmem S32x128 .f32) (f : v.ty.Contents (Elt Ideal)) (d : Vec Ideal S32x128 .f32) (hd : v.read (Elt Ideal) f = d)
    (inb : ∀ a, k0_off1 i a + S2x128.size a ≤ S32x128.size a) :
    ScaleUpd x0 x1 x3 x4 x5 x6 i d (v.read (Elt Ideal) (v.writes (Elt Ideal) f
      [⟨Rect.unit (s := S32x128) (k0_off1 i) S2x128.size inb, k0_pay2 (k0_pay28 (k0_pay26 v21) (k0_pay27 v21)) (k0_pay30 v21) (k0_pay31 v21)⟩])) := by
  constructor
  · intro q j
    refine (View.read_writes_cons_rows_of_mem v f inb _ [] _ (ix2 q j) (off1_eq i) rfl rfl).trans ?_
    exact scale_two hacc q j
  · intro p j hp
    refine (View.read_writes_cons_rows_of_not_mem v f inb _ [] _ (off1_eq i) rfl (W := 2) ?_).trans ?_
    · show p.val < _ ∨ _ ≤ p.val
      omega
    · rw [← hd]; rfl

/-! ### The codes and the result -/

section Rest

variable (𝒱 : Variants) (c : Dev nD) (bd : Option 𝒱.V) (i : grid0.Coords) (arg1 : Memref sig .tc .vmem S256x1536 .i8) (harg1 : arg1.IsWhole) (arg2 : Memref sig .tc .vmem S32x128 .f32) (harg2 : arg2.IsWhole) (arg3 : Memref sig .tc .vmem S256x1536 .f32) (harg3 : arg3.IsWhole) (arg4 : Memref sig .tc .vmem S1536x6912 .i8) (harg4 : arg4.IsWhole) (arg5 : Memref sig .tc .vmem S1x6912 .f32) (harg5 : arg5.IsWhole) (arg6 : Memref sig .tc .vmem S1536x6912 .i8) (harg6 : arg6.IsWhole) (arg7 : Memref sig .tc .vmem S1x6912 .f32) (harg7 : arg7.IsWhole) (arg8 : Memref sig .tc .vmem S6912x1536 .i8) (harg8 : arg8.IsWhole) (arg9 : Memref sig .tc .vmem S1x1536 .f32) (harg9 : arg9.IsWhole) (arg10 : Memref sig .tc .vmem S256x1536 .bf16) (harg10 : arg10.IsWhole) (arg11 : Memref sig .tc .vmem S256x6912 .i8) (harg11 : arg11.IsWhole) (arg12 : Memref sig .tc .vmem S32x128 .f32) (harg12 : arg12.IsWhole) (arg13 : Memref sig .tc .vmem S256x6912 .f32) (harg13 : arg13.IsWhole) (arg14 : Memref sig .tc .vmem S256x1536 .bf16) (harg14 : arg14.IsWhole) (arg15 : Memref sig .tc .vmem S256x6912 .bf16) (harg15 : arg15.IsWhole)
variable {a : Fin 256 → Fin 6912 → EReal} {v21 : FVec Ideal S256x128 .f32} (hacc : AccInv a v21 6912)

include hacc

theorem codes_read (X13 : BufTy.Contents (Elt Ideal) arg13.view.ty) (h13 : ∀ r n, arg13.view.read (Elt Ideal) X13 (ix2 r n) = a r n)
    (f11 : BufTy.Contents (Elt Ideal) arg11.view.ty) (k : ℕ) (hk : k = 27) :
    arg11.view.read (Elt Ideal) (arg11.view.writes (Elt Ideal) f11
      (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 (k0_pay29 (k0_pay26 v21) (k0_pay27 v21)) (k0_pay30 v21) (k0_pay31 v21) X13 k).1) =
      fun y : S256x6912.Idx => (rowCode (a (y 0)) (y 1) : BitVec 8) := by
  subst hk
  exact Fills.read (loop2_upto 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 _ _ _ _ X13 a (fun r => rowScale (a r)) (fun r => rowScale_ne_zero _)
    (scale_lo hacc) (scale_hi hacc) h13 27 le_rfl).1 _ _

theorem nums_read (X13 : BufTy.Contents (Elt Ideal) arg13.view.ty) (h13 : ∀ r n, arg13.view.read (Elt Ideal) X13 (ix2 r n) = a r n)
    (f15 : BufTy.Contents (Elt Ideal) arg15.view.ty) (k : ℕ) (hk : k = 27) (r : Fin 256) (n : Fin 6912) :
    arg15.view.read (Elt Ideal) (arg15.view.writes (Elt Ideal) f15
      (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 (k0_pay29 (k0_pay26 v21) (k0_pay27 v21)) (k0_pay30 v21) (k0_pay31 v21) X13 k).2) (ix2 r n) =
      num (rowCode (a r) n) := by
  subst hk
  exact congrFun (Fills.read (loop2_upto 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 _ _ _ _ X13 a (fun r => rowScale (a r)) (fun r => rowScale_ne_zero _)
    (scale_lo hacc) (scale_hi hacc) h13 27 le_rfl).2 arg15.view f15) (ix2 r n)

theorem out_read (X3 : BufTy.Contents (Elt Ideal) arg3.view.ty) (X8 : BufTy.Contents (Elt Ideal) arg8.view.ty)
    (X9 : BufTy.Contents (Elt Ideal) arg9.view.ty) (X15 : BufTy.Contents (Elt Ideal) arg15.view.ty)
    (h15 : ∀ r n, arg15.view.read (Elt Ideal) X15 (ix2 r n) = num (rowCode (a r) n))
    (f10 : BufTy.Contents (Elt Ideal) arg10.view.ty) (k : ℕ) (hk : k = 3) :
    arg10.view.read (Elt Ideal) (arg10.view.writes (Elt Ideal) f10
      (pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 (k0_pay28 (k0_pay26 v21) (k0_pay27 v21)) (k0_pay30 v21) (k0_pay31 v21) X3 X8 X9 X15 k)) =
      fun y : S256x1536.Idx => (rowOut (a (y 0)) (fun n => arg3.view.read (Elt Ideal) X3 (ix2 (y 0) n)) (fun k n => arg8.view.read (Elt Ideal) X8 (ix2 k n))
        (fun n => arg9.view.read (Elt Ideal) X9 (ix2 0 n)) (y 1) : Ideal .bf16) := by
  subst hk
  exact Fills.read (loop3_upto 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 _ _ _ X3 X8 X9 X15 (fun r => rowCode (a r)) (fun r => rowScale (a r))
    (scale_rows hacc) h15 3 le_rfl) _ _

end Rest

/-! ### The first loop, on the blocks of the inputs -/

section First

variable (𝒱 : Variants) (c : Dev nD) (bd : Option 𝒱.V) (i : grid0.Coords) (arg1 : Memref sig .tc .vmem S256x1536 .i8) (harg1 : arg1.IsWhole) (arg2 : Memref sig .tc .vmem S32x128 .f32) (harg2 : arg2.IsWhole) (arg3 : Memref sig .tc .vmem S256x1536 .f32) (harg3 : arg3.IsWhole) (arg4 : Memref sig .tc .vmem S1536x6912 .i8) (harg4 : arg4.IsWhole) (arg5 : Memref sig .tc .vmem S1x6912 .f32) (harg5 : arg5.IsWhole) (arg6 : Memref sig .tc .vmem S1536x6912 .i8) (harg6 : arg6.IsWhole) (arg7 : Memref sig .tc .vmem S1x6912 .f32) (harg7 : arg7.IsWhole) (arg8 : Memref sig .tc .vmem S6912x1536 .i8) (harg8 : arg8.IsWhole) (arg9 : Memref sig .tc .vmem S1x1536 .f32) (harg9 : arg9.IsWhole) (arg10 : Memref sig .tc .vmem S256x1536 .bf16) (harg10 : arg10.IsWhole) (arg11 : Memref sig .tc .vmem S256x6912 .i8) (harg11 : arg11.IsWhole) (arg12 : Memref sig .tc .vmem S32x128 .f32) (harg12 : arg12.IsWhole) (arg13 : Memref sig .tc .vmem S256x6912 .f32) (harg13 : arg13.IsWhole) (arg14 : Memref sig .tc .vmem S256x1536 .bf16) (harg14 : arg14.IsWhole) (arg15 : Memref sig .tc .vmem S256x6912 .bf16) (harg15 : arg15.IsWhole)
variable (x0 : Vec Ideal S256x1536 .i8) (x1 : Vec Ideal S32x128 .f32) (X2 : BufTy.Contents (Elt Ideal) arg2.view.ty) (X4 : BufTy.Contents (Elt Ideal) arg4.view.ty) (X5 : BufTy.Contents (Elt Ideal) arg5.view.ty)
  (X6 : BufTy.Contents (Elt Ideal) arg6.view.ty) (X7 : BufTy.Contents (Elt Ideal) arg7.view.ty) (X14 : BufTy.Contents (Elt Ideal) arg14.view.ty)

theorem rows_read (h2 : arg2.view.read (Elt Ideal) X2 = x1) (inb : ∀ a, k0_off1 i a + S2x128.size a ≤ S32x128.size a) (r : Fin 256) (l : Fin 128) :
    k0_pay21 (arg2.view.readAt (Elt Ideal) (Rect.unit (s := S32x128) (k0_off1 i) S2x128.size inb).toLoadRect X2) (ix2 r l) = rowIn x1 i r := by
  rw [pay21_apply]
  refine (readAt_ix2 arg2.view X2 _ (off1_eq i) inb _ _ (by show 2 * (stepOf i).val + r.val / 128 < 32; omega) (by show 0 + r.val % 128 < 128; omega)).trans ?_
  rw [h2]
  unfold rowIn
  congr 2; ext; simp

theorem x_read (X1 : BufTy.Contents (Elt Ideal) arg1.view.ty) (h1 : arg1.view.read (Elt Ideal) X1 = x0) (f14 : BufTy.Contents (Elt Ideal) arg14.view.ty)
    (r : Fin 256) (k : Fin 1536) :
    arg14.view.read (Elt Ideal) (arg14.view.writes (Elt Ideal) f14
      [⟨Rect.unit (s := S256x1536) ![0, 0] S256x1536.size inb_S256x1536_S256x1536_0_0,
        k0_pay20 (arg1.view.readAt (Elt Ideal) (Rect.unit (s := S256x1536) ![0, 0] S256x1536.size inb_S256x1536_S256x1536_0_0).toLoadRect X1)⟩]) (ix2 r k) =
      num (x0 (ix2 r k)) := by
  refine (View.read_writes_cons_rows_of_mem arg14.view f14 inb_S256x1536_S256x1536_0_0 _ [] _ (ix2 r k) (o := 0) rfl (by simp) rfl).trans ?_
  rw [pay20_apply]
  refine congrArg num ((readAt_cols arg1.view X1 _ rfl _ r k (by omega)).trans ?_)
  rw [h1]; congr 2; ext; simp

theorem first_loop (v7 : Vec Ideal S2x128 .f32) (x3 : Vec Ideal S1536x6912 .i8) (x4 : Vec Ideal S1x6912 .f32) (x5 : Vec Ideal S1536x6912 .i8) (x6 : Vec Ideal S1x6912 .f32)
    (h4 : arg4.view.read (Elt Ideal) X4 = x3) (h5 : arg5.view.read (Elt Ideal) X5 = x4) (h6 : arg6.view.read (Elt Ideal) X6 = x5) (h7 : arg7.view.read (Elt Ideal) X7 = x6)
    (hs : ∀ r l, k0_pay21 v7 (ix2 r l) = rowIn x1 i r)
    (hx : ∀ r k, arg14.view.read (Elt Ideal) X14 (ix2 r k) = num (x0 (ix2 r k))) (k : ℕ) (hk : k = 9) :
    AccInv (actBlk x0 x1 x3 x4 x5 x6 i) (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v7 X4 X5 X6 X7 X14 (k0_pay22 (F := Ideal)) k).1 6912 ∧
    ∀ (f13 : BufTy.Contents (Elt Ideal) arg13.view.ty) (r : Fin 256) (n : Fin 6912),
      arg13.view.read (Elt Ideal) (arg13.view.writes (Elt Ideal) f13
        (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v7 X4 X5 X6 X7 X14 (k0_pay22 (F := Ideal)) k).2) (ix2 r n) = actBlk x0 x1 x3 x4 x5 x6 i r n := by
  subst hk
  have h := loop1_upto 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v7 X4 X5 X6 X7 X14 (fun r k => x0 (ix2 r k)) (rowIn x1 i) (actBlk x0 x1 x3 x4 x5 x6 i)
    (fun r n => by rw [h4, h5, h6, h7]; rfl) hs hx 9 le_rfl
  exact ⟨h.1, fun f13 r n => congrFun (Fills.read h.2 arg13.view f13) (ix2 r n)⟩

end First

end Cert.KernelIdeal.Hand

end
-- ==== Proof.KRun.lean ====
/-
  ONE RUN OF THE BODY: from the blocks of the nine inputs to the block of codes, the block of the result, and the two rows
  of scales the step stores.
-/
module

public import proofs.«01_k».proof.Proof.KVal
public import proofs.«01_k».proof.Proof.Gen.KernelIdeal.Launch
public import proofs.«01_k».proof.Proof.Gen.KernelIdeal.Points
public import Idealize.ShloMosaic.Lib.Pipeline.FrameBody
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen Cert.Mlp Cert.Cols
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

-- (the run's proof term is large: checking it walks past the default budget)
set_option maxHeartbeats 2000000 in
/-- The body's triple: on whole memrefs, the inputs at their contents, the scale window at `d11`, the rest at anything. -/
theorem kernelRun (c : Dev nD) (i : grid0.Coords) (arg1 : Memref sig .tc .vmem S256x1536 .i8) (harg1 : arg1.IsWhole) (arg2 : Memref sig .tc .vmem S32x128 .f32) (harg2 : arg2.IsWhole) (arg3 : Memref sig .tc .vmem S256x1536 .f32) (harg3 : arg3.IsWhole) (arg4 : Memref sig .tc .vmem S1536x6912 .i8) (harg4 : arg4.IsWhole) (arg5 : Memref sig .tc .vmem S1x6912 .f32) (harg5 : arg5.IsWhole) (arg6 : Memref sig .tc .vmem S1536x6912 .i8) (harg6 : arg6.IsWhole) (arg7 : Memref sig .tc .vmem S1x6912 .f32) (harg7 : arg7.IsWhole) (arg8 : Memref sig .tc .vmem S6912x1536 .i8) (harg8 : arg8.IsWhole) (arg9 : Memref sig .tc .vmem S1x1536 .f32) (harg9 : arg9.IsWhole) (arg10 : Memref sig .tc .vmem S256x1536 .bf16) (harg10 : arg10.IsWhole) (arg11 : Memref sig .tc .vmem S256x6912 .i8) (harg11 : arg11.IsWhole) (arg12 : Memref sig .tc .vmem S32x128 .f32) (harg12 : arg12.IsWhole) (arg13 : Memref sig .tc .vmem S256x6912 .f32) (harg13 : arg13.IsWhole) (arg14 : Memref sig .tc .vmem S256x1536 .bf16) (harg14 : arg14.IsWhole) (arg15 : Memref sig .tc .vmem S256x6912 .bf16) (harg15 : arg15.IsWhole)
    (x0 : Vec Ideal S256x1536 .i8) (x1 : Vec Ideal S32x128 .f32) (x2 : Vec Ideal S256x1536 .f32) (x3 : Vec Ideal S1536x6912 .i8) (x4 : Vec Ideal S1x6912 .f32) (x5 : Vec Ideal S1536x6912 .i8) (x6 : Vec Ideal S1x6912 .f32) (x7 : Vec Ideal S6912x1536 .i8) (x8 : Vec Ideal S1x1536 .f32) (d11 : Vec Ideal S32x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ owns (c : Thread nD τ) arg12 fullShare d11 ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (outBlk x0 x1 x2 x3 x4 x5 x6 x7 x8 i) ∗ owns (c : Thread nD τ) arg11 fullShare (codeBlk x0 x1 x3 x4 x5 x6 i) ∗ (∃ d, ⌜ScaleUpd x0 x1 x3 x4 x5 x6 i d11 d⌝ ∗ owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
          ⊢ wp frame (wpE (defs₀ (F := Ideal)) Variants.none c none) E (cc0_mlp i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
    intro E K
    simp only [cc0_mlp_eq_skeleton]; unfold cc0_mlp_skel
    simp only [k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%f11, %hf11, H11⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    obtain rfl := harg12.eq_unread hf11
    sl_exec
    sl_step
    have hs := rows_read i arg2 x1 _ hf1 (k0_off1_inb i)
    have hx := x_read arg1 arg14 x0 _ hf0 arg14.view.junk
    have hfirst := first_loop Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 _ _ _ _ _ _ x3 x4 x5 x6 hf3 hf4 hf5 hf6 hs hx _ (show Scf.trips k0_t1_loop.lb k0_t1_loop.ub k0_t1_loop.st = 9 by decide +kernel)
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; swap; · iexact H9
      ipureintro; (have e := out_read Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 hfirst.1 (harg3.unread x2) (harg8.unread x7) (harg9.unread x8) _ (nums_read Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 hfirst.1 _ (hfirst.2 fs0) fs2 _ (show Scf.trips k0_t2_loop.lb k0_t2_loop.ub k0_t2_loop.st = 27 by decide +kernel)) f9 _ (show Scf.trips k0_t3_loop.lb k0_t3_loop.ub k0_t3_loop.st = 3 by decide +kernel); rw [hf2, hf7, hf8] at e; exact e)
    isplitl [H10]
    · iexists _; isplitr; swap; · iexact H10
      ipureintro; exact codes_read Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 hfirst.1 _ (hfirst.2 fs0) f10 _ (show Scf.trips k0_t2_loop.lb k0_t2_loop.ub k0_t2_loop.st = 27 by decide +kernel)
    isplitl [H11]
    · iexists _; isplitr; swap
      · iexists _; isplitr; swap; · iexact H11
        ipureintro; rfl
      ipureintro; exact scale_store x0 x1 x3 x4 x5 x6 i hfirst.1 arg12.view _ d11 hf11 _
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.KernelIdeal.Hand

end
-- ==== Proof.KFrame.lean ====
/-
  THE RUN OF THE KERNEL OVER THE IDEAL NUMBERS: the result and the codes window by window at the blocks the specification
  names; the scale window, which every step fills two rows of and the last writes back, held to having the rows so far.
-/
module

public import proofs.«01_k».proof.Proof.KRun
public import proofs.«01_k».proof.Proof.Gen.KernelIdeal.Frame
public import Idealize.ShloMosaic.Lib.Pipeline.DatRel
public import Idealize.ShloMosaic.Lib.Pipeline.ArrRel
public import Idealize.ShloMosaic.Lib.Claim

@[expose] public section

set_option maxRecDepth 16384

noncomputable section

namespace Cert.KernelIdeal.Hand

open Cert.KernelIdeal Cert.KernelIdeal.Gen Cert.Mlp Cert.Cols
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationRel cellOf RDat)

local notation "𝕄" => MT nD τ sig Unit (Elt Ideal) ℕ (UR sig nD τ) ℕ

variable (m : (ℓ : Loc nD τ sig) → Buf (Elt Ideal) ℓ) (ρ : Dev nD → PrngReg)

/-! ## What the blocks hold -/

/-- The activation at a point, -/
def actAt (c : Dev nD) (t : Fin cfg0.N) : Fin 256 → Fin 6912 → EReal :=
  actBlk (iblk m c 0 t) (iblk m c 1 t) (iblk m c 3 t) (iblk m c 4 t) (iblk m c 5 t) (iblk m c 6 t) (grid0.coords t)

/-- the block of the result, -/
def outAt (c : Dev nD) (t : Fin cfg0.N) : Vec Ideal S256x1536 .bf16 :=
  outBlk (iblk m c 0 t) (iblk m c 1 t) (iblk m c 2 t) (iblk m c 3 t) (iblk m c 4 t) (iblk m c 5 t) (iblk m c 6 t) (iblk m c 7 t) (iblk m c 8 t) (grid0.coords t)

/-- the block of codes, -/
def codeAt (c : Dev nD) (t : Fin cfg0.N) : Vec Ideal S256x6912 .i8 :=
  codeBlk (iblk m c 0 t) (iblk m c 1 t) (iblk m c 3 t) (iblk m c 4 t) (iblk m c 5 t) (iblk m c 6 t) (grid0.coords t)

/-- the point whose rows row `p` of the scale array belongs to, -/
def ptOf (p : Fin 32) : Fin cfg0.N := ⟨p.val / 2, by rw [show cfg0.N = 16 from by decide]; omega⟩

/-- and the scale array. -/
def scaleArr (c : Dev nD) : Vec Ideal S32x128 .f32 := fun y =>
  (rowScale (actAt m c (ptOf (y 0)) ⟨(y 0).val % 2 * 128 + (y 1).val, by have h : (y 1).val < 128 := (y 1).isLt; omega⟩) : EReal)

theorem step_coords (t : Fin cfg0.N) : (stepOf (grid0.coords t)).val = t.val := by
  revert t; decide

/-- The rows of the points below `n` are filled. -/
def Upto (c : Dev nD) (n : ℕ) (X : Vec Ideal S32x128 .f32) : Prop :=
  ∀ (p : Fin 32) (j : Fin 128), p.val / 2 < n → X (ix2 p j) = scaleArr m c (ix2 p j)

/-- A step fills its rows. -/
theorem Upto.step {c : Dev nD} {t : Fin cfg0.N} {d d' : Vec Ideal S32x128 .f32} (h : Upto m c t.val d)
    (hu : ScaleUpd (iblk m c 0 t) (iblk m c 1 t) (iblk m c 3 t) (iblk m c 4 t) (iblk m c 5 t) (iblk m c 6 t) (grid0.coords t) d d') : Upto m c (t.val + 1) d' := by
  intro p j hp
  have hst := step_coords t
  by_cases he : p.val / 2 = t.val
  · have ht : ptOf p = t := Fin.ext he
    have h1 := hu.1 ⟨p.val % 2, by omega⟩ j
    have e1 : (⟨2 * (stepOf (grid0.coords t)).val + p.val % 2, by omega⟩ : Fin 32) = p := Fin.ext (by show 2 * (stepOf (grid0.coords t)).val + p.val % 2 = p.val; omega)
    dsimp only at h1
    rw [e1] at h1
    rw [h1]
    show _ = rowScale (actAt m c (ptOf p) _)
    rw [ht]
    rfl
  · rw [hu.2 p j (by rw [hst]; exact he)]
    exact h p j (by omega)

/-! ## The pipeline's proof data -/

/-- The scale window is held to a predicate, -/
def fgt0 : Fin 12 → Bool := fun w => w.val == 11

/-- this one: after point `t`, the rows of the points up to it are filled. -/
def Rl (c : Dev nD) : (w : Fin cfg0.W) → Fin cfg0.N → ((cfg0.win w).block.Idx → Elt Ideal (cfg0.win w).elt) → Prop := fun w t X =>
  match w, X with
  | ⟨11, _⟩, X => Upto m c (t.val + 1) X
  | _, _ => True

/-- The proof data: the arrays as the region finds them; after the body each input's buffer at its block, the result and the codes at
    the blocks named above. -/
def datsK (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outAt m c t
    | ⟨10, _⟩ => codeAt m c t
    | ⟨11, h⟩ => Pipeline.Dat.unnamed (cfg := cfg0) ⟨11, h⟩ t
  Φ _ := Pipeline.ΦA spec0 c
  q _ := fullShare
  owed _ := 0

theorem A_eqK (c : Dev nD) (w : Fin cfg0.W) : (datsK m 0 c).A w = V m c (Pipeline.arrRef spec0 w) := by
  dsimp only [datsK]

theorem afterK_0 (c : Dev nD) (t : Fin cfg0.N) : (datsK m 0 c).after 0 t = iblk m c 0 t := by dsimp only [datsK]
theorem afterK_1 (c : Dev nD) (t : Fin cfg0.N) : (datsK m 0 c).after 1 t = iblk m c 1 t := by dsimp only [datsK]
theorem afterK_2 (c : Dev nD) (t : Fin cfg0.N) : (datsK m 0 c).after 2 t = iblk m c 2 t := by dsimp only [datsK]
theorem afterK_3 (c : Dev nD) (t : Fin cfg0.N) : (datsK m 0 c).after 3 t = iblk m c 3 t := by dsimp only [datsK]
theorem afterK_4 (c : Dev nD) (t : Fin cfg0.N) : (datsK m 0 c).after 4 t = iblk m c 4 t := by dsimp only [datsK]
theorem afterK_5 (c : Dev nD) (t : Fin cfg0.N) : (datsK m 0 c).after 5 t = iblk m c 5 t := by dsimp only [datsK]
theorem afterK_6 (c : Dev nD) (t : Fin cfg0.N) : (datsK m 0 c).after 6 t = iblk m c 6 t := by dsimp only [datsK]
theorem afterK_7 (c : Dev nD) (t : Fin cfg0.N) : (datsK m 0 c).after 7 t = iblk m c 7 t := by dsimp only [datsK]
theorem afterK_8 (c : Dev nD) (t : Fin cfg0.N) : (datsK m 0 c).after 8 t = iblk m c 8 t := by dsimp only [datsK]
theorem afterK_9 (c : Dev nD) (t : Fin cfg0.N) : (datsK m 0 c).after 9 t = outAt m c t := by dsimp only [datsK]
theorem afterK_10 (c : Dev nD) (t : Fin cfg0.N) : (datsK m 0 c).after 10 t = codeAt m c t := by dsimp only [datsK]

theorem beforeK_0 (c : Dev nD) (t : Fin cfg0.N) (d) : (datsK m 0 c).before 0 t d = iblk m c 0 t :=
  before0_0_of m (datsK m 0 c) (A_eqK m c 0) (afterK_0 m c) t d
theorem beforeK_1 (c : Dev nD) (t : Fin cfg0.N) (d) : (datsK m 0 c).before 1 t d = iblk m c 1 t :=
  before0_1_of m (datsK m 0 c) (A_eqK m c 1) (afterK_1 m c) t d
theorem beforeK_2 (c : Dev nD) (t : Fin cfg0.N) (d) : (datsK m 0 c).before 2 t d = iblk m c 2 t :=
  before0_2_of m (datsK m 0 c) (A_eqK m c 2) (afterK_2 m c) t d
theorem beforeK_3 (c : Dev nD) (t : Fin cfg0.N) (d) : (datsK m 0 c).before 3 t d = iblk m c 3 t :=
  before0_3_of m (datsK m 0 c) (A_eqK m c 3) (afterK_3 m c) t d
theorem beforeK_4 (c : Dev nD) (t : Fin cfg0.N) (d) : (datsK m 0 c).before 4 t d = iblk m c 4 t :=
  before0_4_of m (datsK m 0 c) (A_eqK m c 4) (afterK_4 m c) t d
theorem beforeK_5 (c : Dev nD) (t : Fin cfg0.N) (d) : (datsK m 0 c).before 5 t d = iblk m c 5 t :=
  before0_5_of m (datsK m 0 c) (A_eqK m c 5) (afterK_5 m c) t d
theorem beforeK_6 (c : Dev nD) (t : Fin cfg0.N) (d) : (datsK m 0 c).before 6 t d = iblk m c 6 t :=
  before0_6_of m (datsK m 0 c) (A_eqK m c 6) (afterK_6 m c) t d
theorem beforeK_7 (c : Dev nD) (t : Fin cfg0.N) (d) : (datsK m 0 c).before 7 t d = iblk m c 7 t :=
  before0_7_of m (datsK m 0 c) (A_eqK m c 7) (afterK_7 m c) t d
theorem beforeK_8 (c : Dev nD) (t : Fin cfg0.N) (d) : (datsK m 0 c).before 8 t d = iblk m c 8 t :=
  before0_8_of m (datsK m 0 c) (A_eqK m c 8) (afterK_8 m c) t d

/-- What the scale window may hold when the body runs: the rows of the points before. -/
theorem finds_upto (c : Dev nD) (t : Fin cfg0.N) (Y : Vec Ideal S32x128 .f32) (h : ((datsK m 0 c).toRRel fgt0 (Rl m c)).Finds 11 t Y) :
    Upto m c t.val Y := by
  by_cases ht : t.val = 0
  · intro p j hp; rw [ht] at hp; exact absurd hp (Nat.not_lt_zero _)
  · have hlt : t.val - 1 < cfg0.N := Nat.lt_of_le_of_lt (Nat.sub_le _ _) t.isLt
    have hN : t.val < 16 := lt_of_lt_of_eq t.isLt (by decide)
    rcases (((datsK m 0 c).toRRel fgt0 (Rl m c)).finds_of_pos (w := 11) (t := t) rfl ht Y).mp h with hf | hl
    · have := (flush0_11 ⟨t.val - 1, hlt⟩).mp hf
      dsimp only at this
      omega
    · have h1 : Rl m c 11 ⟨t.val - 1, hlt⟩ Y := (datsK m 0 c).toRRel_leaves (fgt := fgt0) rfl hl
      have h2 : Upto m c (t.val - 1 + 1) Y := h1
      rwa [show t.val - 1 + 1 = t.val by omega] at h2

/-! ## The body obligation -/

/-- What the body is called with at point `t`, the windows one by one, -/
def preK (c : Dev nD) (t : Fin cfg0.N) : sProp 𝕄 :=
  iprop((datsK m 0 c).Φ t.castSucc ∗ (datsK m 0 c).owesAt () t.castSucc
    ∗ (∃ d, owns (c : Thread nD τ) (win0_0.stage (cfg0.slots t 0)) fullShare ((datsK m 0 c).before 0 t d))
    ∗ (∃ d, owns (c : Thread nD τ) (win0_1.stage (cfg0.slots t 1)) fullShare ((datsK m 0 c).before 1 t d))
    ∗ (∃ d, owns (c : Thread nD τ) (win0_2.stage (cfg0.slots t 2)) fullShare ((datsK m 0 c).before 2 t d))
    ∗ (∃ d, owns (c : Thread nD τ) (win0_3.stage (cfg0.slots t 3)) fullShare ((datsK m 0 c).before 3 t d))
    ∗ (∃ d, owns (c : Thread nD τ) (win0_4.stage (cfg0.slots t 4)) fullShare ((datsK m 0 c).before 4 t d))
    ∗ (∃ d, owns (c : Thread nD τ) (win0_5.stage (cfg0.slots t 5)) fullShare ((datsK m 0 c).before 5 t d))
    ∗ (∃ d, owns (c : Thread nD τ) (win0_6.stage (cfg0.slots t 6)) fullShare ((datsK m 0 c).before 6 t d))
    ∗ (∃ d, owns (c : Thread nD τ) (win0_7.stage (cfg0.slots t 7)) fullShare ((datsK m 0 c).before 7 t d))
    ∗ (∃ d, owns (c : Thread nD τ) (win0_8.stage (cfg0.slots t 8)) fullShare ((datsK m 0 c).before 8 t d))
    ∗ (∃ d, owns (c : Thread nD τ) (win0_9.stage (cfg0.slots t 9)) fullShare ((datsK m 0 c).before 9 t d))
    ∗ (∃ d, owns (c : Thread nD τ) (win0_10.stage (cfg0.slots t 10)) fullShare ((datsK m 0 c).before 10 t d))
    ∗ (∃ Y, ⌜((datsK m 0 c).toRRel fgt0 (Rl m c)).Finds 11 t Y⌝ ∗ owns (c : Thread nD τ) (win0_11.stage (cfg0.slots t 11)) fullShare Y))

/-- and what it returns. -/
def postK (c : Dev nD) (t : Fin cfg0.N) : sProp 𝕄 :=
  iprop((datsK m 0 c).Φ t.succ ∗ (datsK m 0 c).owesAt () t.succ
    ∗ owns (c : Thread nD τ) (win0_0.stage (cfg0.slots t 0)) fullShare ((datsK m 0 c).after 0 t)
    ∗ owns (c : Thread nD τ) (win0_1.stage (cfg0.slots t 1)) fullShare ((datsK m 0 c).after 1 t)
    ∗ owns (c : Thread nD τ) (win0_2.stage (cfg0.slots t 2)) fullShare ((datsK m 0 c).after 2 t)
    ∗ owns (c : Thread nD τ) (win0_3.stage (cfg0.slots t 3)) fullShare ((datsK m 0 c).after 3 t)
    ∗ owns (c : Thread nD τ) (win0_4.stage (cfg0.slots t 4)) fullShare ((datsK m 0 c).after 4 t)
    ∗ owns (c : Thread nD τ) (win0_5.stage (cfg0.slots t 5)) fullShare ((datsK m 0 c).after 5 t)
    ∗ owns (c : Thread nD τ) (win0_6.stage (cfg0.slots t 6)) fullShare ((datsK m 0 c).after 6 t)
    ∗ owns (c : Thread nD τ) (win0_7.stage (cfg0.slots t 7)) fullShare ((datsK m 0 c).after 7 t)
    ∗ owns (c : Thread nD τ) (win0_8.stage (cfg0.slots t 8)) fullShare ((datsK m 0 c).after 8 t)
    ∗ owns (c : Thread nD τ) (win0_9.stage (cfg0.slots t 9)) fullShare ((datsK m 0 c).after 9 t)
    ∗ owns (c : Thread nD τ) (win0_10.stage (cfg0.slots t 10)) fullShare ((datsK m 0 c).after 10 t)
    ∗ (∃ X, ⌜Rl m c 11 t X⌝ ∗ owns (c : Thread nD τ) (win0_11.stage (cfg0.slots t 11)) fullShare X))

/-- The invariant with the scratch operands as memrefs owned at some contents. -/
theorem PhiA_eqK (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d)) ∗ (∃ r, prngReg c r)) := by
  unfold Pipeline.ΦA; rw [scopedRest0_eq]; simp only [owns_whole]; try rfl

set_option maxHeartbeats 1200000 in
/-- The body at any point: the run applies, and the scale window has its rows filled one point further. -/
theorem soundK (c : Dev nD) (t : Fin cfg0.N) :
    preK m c t ⊢ wp frame (wpE (defs₀ (F := Ideal)) Variants.none c none) Set.univ (bodyAt0 t) (fun _ => postK m c t) := by
  unfold preK postK bodyAt0
  simp only [beforeK_0, beforeK_1, beforeK_2, beforeK_3, beforeK_4, beforeK_5, beforeK_6, beforeK_7, beforeK_8]
  rw [show (datsK m 0 c).Φ t.succ = (datsK m 0 c).Φ t.castSucc from rfl,
    show (datsK m 0 c).owesAt () t.succ = (datsK m 0 c).owesAt () t.castSucc from rfl,
    afterK_0, afterK_1, afterK_2, afterK_3, afterK_4, afterK_5, afterK_6, afterK_7, afterK_8, afterK_9, afterK_10]
  rw [show (datsK m 0 c).Φ t.castSucc = Pipeline.ΦA spec0 c from rfl, PhiA_eqK]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, %hd11, H11⟩⟩
  iapply ((kernelRun c (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) d11) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexact H11
  isplitl [HS0]; · iexact HS0
  isplitl [HS1]; · iexact HS1
  isplitl [HS2]; · iexact HS2
  iintro ⟨H0, H1, H2, H3, H4, H5, H6, H7, H8, H9, H10, ⟨%e11, %he11, H11⟩, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexists e11
  isplitr
  · ipureintro
    exact (finds_upto m c t d11 hd11).step m he11
  iexact H11

/-- The body table's row at point `t`'s slots is the body. -/
theorem defs_rowK (t : Fin cfg0.N) :
    defs₀ (F := Ideal) .tc cfg0.body (cfg0.bodyArgs t (cfg0.slots t)) = bodyAt0 t := by
  unfold defs₀; rw [Defs.onTc_tc]

/-- The library's body obligation. -/
theorem obligationK (c : Dev nD) :
    BodyObligationRel (datsK m 0 c) (defs₀ (F := Ideal)) Variants.none () Set.univ fgt0 (Rl m c) := fun t => by
  rw [bigSep_W0, bigSep_W0, defs_rowK]
  exact triple_restated (soundK m c t) rfl .rfl fun _ => .rfl

/-! ## The run -/

/-- The data read relationally. -/
abbrev rdatK (c : Dev nD) : RDat τ (Elt Ideal) Unit ℕ (UR sig nD τ) ℕ (cfgs 0) c := (datsK m 0 c).toRRel fgt0 (Rl m c)

-- the run theorem's implicit arguments are found by unifying its conclusion with this one
set_option backward.isDefEq.respectTransparency.types false in
theorem runK : θ_run defs (onTc (τ := τ) (main (F := Ideal))) (s₀ m ρ)
    (fun r => Pipeline.RDat.FramePost (cfgs 0) (rdatK m) (V m) r ∧ r.2.sem = fun _ => 0) :=
  Pipeline.RDat.θ_run_frame_track (Q' := _) cfgs (0 : Fin 1) launch0 defs₀ Variants.none (rdatK m) m ρ main
    (hbody := fun c => (obligationK m c).toRRel) (hshare := fun c => (datsK m 0 c).share_full fun _ => rfl)
    (howed := fun _ _ => rfl) (V := V m) (hmain := hmain m Variants.none) (hA := A_eqK m) (hin := fun _ => .rfl) (hout := fun _ => .rfl)

end Cert.KernelIdeal.Hand

end
-- ==== Proof.Whole.lean ====
/-
  THE WHOLE MLP of 4096 rows, row by row: the arrays it is given, and each result at an index. Row `R` of the scale arrays
  is entry `(R / 128, R % 128)` of a 32 by 128 array, in the argument and in the result alike.
-/
module

public import proofs.«01_k».proof.Proof.Spec
public import Idealize.ShloMosaic.Lib.Pointwise

@[expose] public section

set_option maxRecDepth 16384

noncomputable section

namespace Cert.Mlp

open Idealize.ShloMosaic

/-- The arrays: the codes of the input and their scales, the residual, and the gate, up and down weights, each as codes and
    one scale per column. -/
structure Args where
  x : (⟨2, ![4096, 1536]⟩ : Shape).Idx → BitVec 8
  s : (⟨2, ![32, 128]⟩ : Shape).Idx → EReal
  h : (⟨2, ![4096, 1536]⟩ : Shape).Idx → EReal
  wg : (⟨2, ![1536, 6912]⟩ : Shape).Idx → BitVec 8
  sg : (⟨1, ![6912]⟩ : Shape).Idx → EReal
  wu : (⟨2, ![1536, 6912]⟩ : Shape).Idx → BitVec 8
  su : (⟨1, ![6912]⟩ : Shape).Idx → EReal
  wd : (⟨2, ![6912, 1536]⟩ : Shape).Idx → BitVec 8
  sd : (⟨1, ![1536]⟩ : Shape).Idx → EReal

namespace Args

variable (A : Args)

/-- The input scale of row `R`. -/
def rowIn (R : Fin 4096) : EReal :=
  A.s (ix2 ⟨R.val / 128, by omega⟩ ⟨R.val % 128, by omega⟩)

/-- The activation of row `R`. -/
def actRow (R : Fin 4096) : Fin 6912 → EReal :=
  act (fun k => A.x (ix2 R k)) (A.rowIn R) (fun k n => A.wg (ix2 k n)) (fun n => A.sg (ix1 n))
    (fun k n => A.wu (ix2 k n)) (fun n => A.su (ix1 n))

/-- The first result: the residual plus the down projection of the activation's codes. -/
def out : (⟨2, ![4096, 1536]⟩ : Shape).Idx → EReal := fun y =>
  rowOut (A.actRow (y 0)) (fun n => A.h (ix2 (y 0) n)) (fun k n => A.wd (ix2 k n)) (fun n => A.sd (ix1 n)) (y 1)

/-- The second: the codes of the activation. -/
def codes : (⟨2, ![4096, 6912]⟩ : Shape).Idx → BitVec 8 := fun y => rowCode (A.actRow (y 0)) (y 1)

/-- The third: their scales. -/
def scales : (⟨2, ![32, 128]⟩ : Shape).Idx → EReal := fun y =>
  rowScale (A.actRow ⟨(y 0).val * 128 + (y 1).val, by have h0 : (y 0).val < 32 := (y 0).isLt; have h1 : (y 1).val < 128 := (y 1).isLt; omega⟩)

end Args

end Cert.Mlp

end
-- ==== Proof.KArr.lean ====
/-
  WHAT THE BLOCKS ARE of the arguments, over the ideal numbers: those that point `t` works on are rows `256 t` to
  `256 t + 255` of the arrays, so the block results are those rows of the whole MLP.
-/
module

public import proofs.«01_k».proof.Proof.KFrame
public import proofs.«01_k».proof.Proof.Whole
public import Idealize.ShloMosaic.Lib.StableHlo.Run
public import Idealize.ShloMosaic.Lib.Pipeline.ValueKit

@[expose] public section

set_option maxRecDepth 16384

noncomputable section

namespace Cert.KernelIdeal.Hand

open Cert.KernelIdeal Cert.KernelIdeal.Gen Cert.Mlp Cert.Cols
open Idealize.ShloMosaic Idealize.ShloMosaic.TcCoe Idealize.ShloMosaic.Tactic
open Idealize.SL.Sem
open Idealize.ShloMosaic.Pipeline (Dat Cfg Window RDat)

variable (m : (ℓ : Loc nD τ sig) → Buf (Elt Ideal) ℓ) (ρ : Dev nD → PrngReg)

/-- The arguments of a device. -/
def argsK (c : Dev nD) : Args where
  x := m ((c : Thread nD τ).loc main_arg0)
  s := m ((c : Thread nD τ).loc main_arg1)
  h := m ((c : Thread nD τ).loc main_arg2)
  wg := m ((c : Thread nD τ).loc main_arg3)
  sg := m ((c : Thread nD τ).loc main_arg4)
  wu := m ((c : Thread nD τ).loc main_arg5)
  su := m ((c : Thread nD τ).loc main_arg6)
  wd := m ((c : Thread nD τ).loc main_arg7)
  sd := m ((c : Thread nD τ).loc main_arg8)

/-- Row `r` of the blocks at point `t`. -/
def rowOf (t : Fin cfg0.N) (r : Fin 256) : Fin 4096 :=
  ⟨256 * t.val + r.val, by have h : t.val < 16 := t.isLt; omega⟩

/-! ## The scales that the host reshapes -/

theorem V_v0 (c : Dev nD) (n : Fin 6912) : (V m c main_v0 : Vec Ideal S1x6912 .f32) (ix2 0 n) = (argsK m c).sg (ix1 n) := by
  have e : (V m c main_v0 : Vec Ideal S1x6912 .f32)
      = shapeCast S1x6912 (m ((c : Thread nD τ).loc main_arg4) : Vec Ideal S6912 .f32) shapeCasts_S6912_S1x6912 := by
    unfold V
    after_results
    rfl
  rw [e, shapeCast_apply _ _ _ (ix1 n) (by rw [Shape.rowMajor_val_one, Shape.rowMajor_val_two]; show n.val = 0 * 6912 + n.val; omega)]
  rfl

theorem V_v1 (c : Dev nD) (n : Fin 6912) : (V m c main_v1 : Vec Ideal S1x6912 .f32) (ix2 0 n) = (argsK m c).su (ix1 n) := by
  have e : (V m c main_v1 : Vec Ideal S1x6912 .f32)
      = shapeCast S1x6912 (m ((c : Thread nD τ).loc main_arg6) : Vec Ideal S6912 .f32) shapeCasts_S6912_S1x6912 := by
    unfold V
    after_results
    rfl
  rw [e, shapeCast_apply _ _ _ (ix1 n) (by rw [Shape.rowMajor_val_one, Shape.rowMajor_val_two]; show n.val = 0 * 6912 + n.val; omega)]
  rfl

theorem V_v2 (c : Dev nD) (n : Fin 1536) : (V m c main_v2 : Vec Ideal S1x1536 .f32) (ix2 0 n) = (argsK m c).sd (ix1 n) := by
  have e : (V m c main_v2 : Vec Ideal S1x1536 .f32)
      = shapeCast S1x1536 (m ((c : Thread nD τ).loc main_arg8) : Vec Ideal S1536 .f32) shapeCasts_S1536_S1x1536 := by
    unfold V
    after_results
    rfl
  rw [e, shapeCast_apply _ _ _ (ix1 n) (by rw [Shape.rowMajor_val_one, Shape.rowMajor_val_two]; show n.val = 0 * 1536 + n.val; omega)]
  rfl

/-! ## The blocks -/

theorem blk_0 (c : Dev nD) (t : Fin cfg0.N) (r : Fin 256) (k : Fin 1536) :
    (iblk m c 0 t : Vec Ideal S256x1536 .i8) (ix2 r k) = (argsK m c).x (ix2 (rowOf t r) k) := by
  have hi : win0_0.index t 0 = t.val ∧ win0_0.index t 1 = 0 := by revert t; decide +kernel
  unfold iblk
  rw [View.read_apply]
  show V m c main_arg0 _ = _
  rw [V_main_arg0]
  show m ((c : Thread nD τ).loc main_arg0) _ = m ((c : Thread nD τ).loc main_arg0) _
  congr 1
  funext a
  apply Fin.ext
  match a with
  | ⟨0, _⟩ => show win0_0.index t 0 * 256 + 1 * r.val = 256 * t.val + r.val; rw [hi.1]; omega
  | ⟨1, _⟩ => show win0_0.index t 1 * 1536 + 1 * k.val = k.val; rw [hi.2]; omega

theorem blk_1 (c : Dev nD) (t : Fin cfg0.N) (r : Fin 32) (k : Fin 128) :
    (iblk m c 1 t : Vec Ideal S32x128 .f32) (ix2 r k) = (argsK m c).s (ix2 r k) := by
  have hi : win0_1.index t 0 = 0 ∧ win0_1.index t 1 = 0 := by revert t; decide +kernel
  unfold iblk
  rw [View.read_apply]
  show V m c main_arg1 _ = _
  rw [V_main_arg1]
  show m ((c : Thread nD τ).loc main_arg1) _ = m ((c : Thread nD τ).loc main_arg1) _
  congr 1
  funext a
  apply Fin.ext
  match a with
  | ⟨0, _⟩ => show win0_1.index t 0 * 32 + 1 * r.val = r.val; rw [hi.1]; omega
  | ⟨1, _⟩ => show win0_1.index t 1 * 128 + 1 * k.val = k.val; rw [hi.2]; omega

theorem blk_2 (c : Dev nD) (t : Fin cfg0.N) (r : Fin 256) (k : Fin 1536) :
    (iblk m c 2 t : Vec Ideal S256x1536 .f32) (ix2 r k) = (argsK m c).h (ix2 (rowOf t r) k) := by
  have hi : win0_2.index t 0 = t.val ∧ win0_2.index t 1 = 0 := by revert t; decide +kernel
  unfold iblk
  rw [View.read_apply]
  show V m c main_arg2 _ = _
  rw [V_main_arg2]
  show m ((c : Thread nD τ).loc main_arg2) _ = m ((c : Thread nD τ).loc main_arg2) _
  congr 1
  funext a
  apply Fin.ext
  match a with
  | ⟨0, _⟩ => show win0_2.index t 0 * 256 + 1 * r.val = 256 * t.val + r.val; rw [hi.1]; omega
  | ⟨1, _⟩ => show win0_2.index t 1 * 1536 + 1 * k.val = k.val; rw [hi.2]; omega

theorem blk_3 (c : Dev nD) (t : Fin cfg0.N) (r : Fin 1536) (k : Fin 6912) :
    (iblk m c 3 t : Vec Ideal S1536x6912 .i8) (ix2 r k) = (argsK m c).wg (ix2 r k) := by
  have hi : win0_3.index t 0 = 0 ∧ win0_3.index t 1 = 0 := by revert t; decide +kernel
  unfold iblk
  rw [View.read_apply]
  show V m c main_arg3 _ = _
  rw [V_main_arg3]
  show m ((c : Thread nD τ).loc main_arg3) _ = m ((c : Thread nD τ).loc main_arg3) _
  congr 1
  funext a
  apply Fin.ext
  match a with
  | ⟨0, _⟩ => show win0_3.index t 0 * 1536 + 1 * r.val = r.val; rw [hi.1]; omega
  | ⟨1, _⟩ => show win0_3.index t 1 * 6912 + 1 * k.val = k.val; rw [hi.2]; omega

theorem blk_4 (c : Dev nD) (t : Fin cfg0.N) (k : Fin 6912) :
    (iblk m c 4 t : Vec Ideal S1x6912 .f32) (ix2 0 k) = (argsK m c).sg (ix1 k) := by
  have hi : win0_4.index t 0 = 0 ∧ win0_4.index t 1 = 0 := by revert t; decide +kernel
  unfold iblk
  rw [View.read_apply]
  show V m c main_v0 _ = _
  refine Eq.trans ?_ (V_v0 m c k)
  congr 1
  funext a
  apply Fin.ext
  match a with
  | ⟨0, _⟩ => show win0_4.index t 0 * 1 + 1 * 0 = 0; rw [hi.1]
  | ⟨1, _⟩ => show win0_4.index t 1 * 6912 + 1 * k.val = k.val; rw [hi.2]; omega

theorem blk_5 (c : Dev nD) (t : Fin cfg0.N) (r : Fin 1536) (k : Fin 6912) :
    (iblk m c 5 t : Vec Ideal S1536x6912 .i8) (ix2 r k) = (argsK m c).wu (ix2 r k) := by
  have hi : win0_5.index t 0 = 0 ∧ win0_5.index t 1 = 0 := by revert t; decide +kernel
  unfold iblk
  rw [View.read_apply]
  show V m c main_arg5 _ = _
  rw [V_main_arg5]
  show m ((c : Thread nD τ).loc main_arg5) _ = m ((c : Thread nD τ).loc main_arg5) _
  congr 1
  funext a
  apply Fin.ext
  match a with
  | ⟨0, _⟩ => show win0_5.index t 0 * 1536 + 1 * r.val = r.val; rw [hi.1]; omega
  | ⟨1, _⟩ => show win0_5.index t 1 * 6912 + 1 * k.val = k.val; rw [hi.2]; omega

theorem blk_6 (c : Dev nD) (t : Fin cfg0.N) (k : Fin 6912) :
    (iblk m c 6 t : Vec Ideal S1x6912 .f32) (ix2 0 k) = (argsK m c).su (ix1 k) := by
  have hi : win0_6.index t 0 = 0 ∧ win0_6.index t 1 = 0 := by revert t; decide +kernel
  unfold iblk
  rw [View.read_apply]
  show V m c main_v1 _ = _
  refine Eq.trans ?_ (V_v1 m c k)
  congr 1
  funext a
  apply Fin.ext
  match a with
  | ⟨0, _⟩ => show win0_6.index t 0 * 1 + 1 * 0 = 0; rw [hi.1]
  | ⟨1, _⟩ => show win0_6.index t 1 * 6912 + 1 * k.val = k.val; rw [hi.2]; omega

theorem blk_7 (c : Dev nD) (t : Fin cfg0.N) (r : Fin 6912) (k : Fin 1536) :
    (iblk m c 7 t : Vec Ideal S6912x1536 .i8) (ix2 r k) = (argsK m c).wd (ix2 r k) := by
  have hi : win0_7.index t 0 = 0 ∧ win0_7.index t 1 = 0 := by revert t; decide +kernel
  unfold iblk
  rw [View.read_apply]
  show V m c main_arg7 _ = _
  rw [V_main_arg7]
  show m ((c : Thread nD τ).loc main_arg7) _ = m ((c : Thread nD τ).loc main_arg7) _
  congr 1
  funext a
  apply Fin.ext
  match a with
  | ⟨0, _⟩ => show win0_7.index t 0 * 6912 + 1 * r.val = r.val; rw [hi.1]; omega
  | ⟨1, _⟩ => show win0_7.index t 1 * 1536 + 1 * k.val = k.val; rw [hi.2]; omega

theorem blk_8 (c : Dev nD) (t : Fin cfg0.N) (k : Fin 1536) :
    (iblk m c 8 t : Vec Ideal S1x1536 .f32) (ix2 0 k) = (argsK m c).sd (ix1 k) := by
  have hi : win0_8.index t 0 = 0 ∧ win0_8.index t 1 = 0 := by revert t; decide +kernel
  unfold iblk
  rw [View.read_apply]
  show V m c main_v2 _ = _
  refine Eq.trans ?_ (V_v2 m c k)
  congr 1
  funext a
  apply Fin.ext
  match a with
  | ⟨0, _⟩ => show win0_8.index t 0 * 1 + 1 * 0 = 0; rw [hi.1]
  | ⟨1, _⟩ => show win0_8.index t 1 * 1536 + 1 * k.val = k.val; rw [hi.2]; omega

/-! ## The block results are the rows -/

/-- The input scale of a row. -/
theorem rowIn_eq (c : Dev nD) (t : Fin cfg0.N) (r : Fin 256) :
    rowIn (iblk m c 1 t) (grid0.coords t) r = (argsK m c).rowIn (rowOf t r) := by
  unfold rowIn Args.rowIn
  rw [blk_1]
  have hs := step_coords t
  congr 2
  · apply Fin.ext
    show 2 * (stepOf (grid0.coords t)).val + r.val / 128 = (256 * t.val + r.val) / 128
    omega
  · apply Fin.ext
    show r.val % 128 = (256 * t.val + r.val) % 128
    omega

/-- The activation. -/
theorem actAt_eq (c : Dev nD) (t : Fin cfg0.N) (r : Fin 256) : actAt m c t r = (argsK m c).actRow (rowOf t r) := by
  funext n
  unfold actAt actBlk Args.actRow
  rw [rowIn_eq]
  simp only [blk_0, blk_3, blk_4, blk_5, blk_6]

theorem outAt_eq (c : Dev nD) (t : Fin cfg0.N) (r : Fin 256) (n : Fin 1536) :
    outAt m c t (ix2 r n) = (argsK m c).out (ix2 (rowOf t r) n) := by
  have e : outAt m c t (ix2 r n) = rowOut (actAt m c t r) (fun n => (iblk m c 2 t : Vec Ideal S256x1536 .f32) (ix2 r n))
      (fun k n => (iblk m c 7 t : Vec Ideal S6912x1536 .i8) (ix2 k n)) (fun n => (iblk m c 8 t : Vec Ideal S1x1536 .f32) (ix2 0 n)) n := rfl
  rw [e, actAt_eq]
  simp only [blk_2, blk_7, blk_8]
  rfl

theorem codeAt_eq (c : Dev nD) (t : Fin cfg0.N) (r : Fin 256) (n : Fin 6912) :
    codeAt m c t (ix2 r n) = (argsK m c).codes (ix2 (rowOf t r) n) := by
  show rowCode (actAt m c t r) n = rowCode ((argsK m c).actRow (rowOf t r)) n
  rw [actAt_eq]

theorem scaleArr_eq (c : Dev nD) (p : Fin 32) (j : Fin 128) : scaleArr m c (ix2 p j) = (argsK m c).scales (ix2 p j) := by
  show rowScale (actAt m c (ptOf p) _) = rowScale ((argsK m c).actRow _)
  rw [actAt_eq]
  congr 2
  apply Fin.ext
  show 256 * (p.val / 2) + (p.val % 2 * 128 + j.val) = p.val * 128 + j.val
  omega

end Cert.KernelIdeal.Hand

end
-- ==== Proof.KEnd.lean ====
/-
  WHAT THE KERNEL'S ARRAYS HOLD AT THE END, over the ideal numbers: the three results are the whole MLP of the arguments.
-/
module

public import proofs.«01_k».proof.Proof.KArr
public import proofs.«01_k».proof.Proof.Whole
public import Idealize.ShloMosaic.Lib.StableHlo.Run
public import Idealize.ShloMosaic.Lib.Pipeline.ValueKit

@[expose] public section

set_option maxRecDepth 16384

noncomputable section

namespace Cert.KernelIdeal.Hand

open Cert.KernelIdeal Cert.KernelIdeal.Gen Cert.Mlp Cert.Cols
open Idealize.ShloMosaic Idealize.ShloMosaic.TcCoe Idealize.ShloMosaic.Tactic
open Idealize.SL.Sem
open Idealize.ShloMosaic.Pipeline (Dat Cfg Window RDat)

variable (m : (ℓ : Loc nD τ sig) → Buf (Elt Ideal) ℓ) (ρ : Dev nD → PrngReg)

/-! ## The arrays at the end -/

theorem idx_9 : ∀ t : Fin cfg0.N, win0_9.index t 0 = t.val ∧ win0_9.index t 1 = 0 := by decide +kernel

theorem final_9 (c : Dev nD) : (datsK m 0 c).arrAt 9 cfg0.N = (argsK m c).out := by
  refine (datsK m 0 c).arrAt_eq_of_emb 9 _ (fun t hf y => ?_) (fun i => ?_)
  rotate_left
  · have h0 : (i 0 : Nat) < 4096 := (i 0).isLt
    have h1 : (i 1 : Nat) < 1536 := (i 1).isLt
    have ht : (i 0 : Nat) / 256 < cfg0.N := by rw [show cfg0.N = 16 from N_0]; omega
    have hi := idx_9
    refine ⟨⟨(i 0 : Nat) / 256, ht⟩, flush0_9 _, ?_⟩
    show i ∈ ((View.whole main_v3_0).slice (win0_9.rect ⟨(i 0 : Nat) / 256, ht⟩)).set
    rw [View.set_slice_whole, Rect.mem_set_unit]
    intro a
    match a with
    | ⟨0, _⟩ =>
      show win0_9.index ⟨(i 0 : Nat) / 256, ht⟩ 0 * 256 ≤ (i 0 : Nat) ∧ (i 0 : Nat) < win0_9.index ⟨(i 0 : Nat) / 256, ht⟩ 0 * 256 + 256
      rw [(hi _).1]; show (i 0 : Nat) / 256 * 256 ≤ (i 0 : Nat) ∧ (i 0 : Nat) < (i 0 : Nat) / 256 * 256 + 256; omega
    | ⟨1, _⟩ =>
      show win0_9.index ⟨(i 0 : Nat) / 256, ht⟩ 1 * 1536 ≤ (i 1 : Nat) ∧ (i 1 : Nat) < win0_9.index ⟨(i 0 : Nat) / 256, ht⟩ 1 * 1536 + 1536
      rw [(hi _).2]; omega
  have hi : win0_9.index t 0 = t.val ∧ win0_9.index t 1 = 0 := idx_9 t
  have hx : ((cfg0.win 9).xinj (grid0.coords t) y) = ix2 (⟨(y 0).val, (y 0).isLt⟩ : Fin 256) (⟨(y 1).val, (y 1).isLt⟩ : Fin 1536) := by
    funext a; match a with | ⟨0, _⟩ => rfl | ⟨1, _⟩ => rfl
  have hg : ix2 (rowOf t (⟨(y 0).val, (y 0).isLt⟩ : Fin 256)) (⟨(y 1).val, (y 1).isLt⟩ : Fin 1536) = ((cfg0.win 9).blk t).view.emb y := by
    funext a
    apply Fin.ext
    match a with
    | ⟨0, _⟩ => show 256 * t.val + (y 0).val = win0_9.index t 0 * 256 + 1 * (y 0).val; rw [hi.1]; omega
    | ⟨1, _⟩ => show (y 1).val = win0_9.index t 1 * 1536 + 1 * (y 1).val; rw [hi.2]; omega
  have e := outAt_eq m c t (⟨(y 0).val, (y 0).isLt⟩ : Fin 256) (⟨(y 1).val, (y 1).isLt⟩ : Fin 1536)
  have e1 := (congrFun (afterK_9 m c t) _).trans ((congrArg (outAt m c t) hx).trans e)
  exact e1.trans (congrArg (argsK m c).out hg)

theorem idx_10 : ∀ t : Fin cfg0.N, win0_10.index t 0 = t.val ∧ win0_10.index t 1 = 0 := by decide +kernel

theorem final_10 (c : Dev nD) : (datsK m 0 c).arrAt 10 cfg0.N = (argsK m c).codes := by
  refine (datsK m 0 c).arrAt_eq_of_emb 10 _ (fun t hf y => ?_) (fun i => ?_)
  rotate_left
  · have h0 : (i 0 : Nat) < 4096 := (i 0).isLt
    have h1 : (i 1 : Nat) < 6912 := (i 1).isLt
    have ht : (i 0 : Nat) / 256 < cfg0.N := by rw [show cfg0.N = 16 from N_0]; omega
    have hi := idx_10
    refine ⟨⟨(i 0 : Nat) / 256, ht⟩, flush0_10 _, ?_⟩
    show i ∈ ((View.whole main_v3_1).slice (win0_10.rect ⟨(i 0 : Nat) / 256, ht⟩)).set
    rw [View.set_slice_whole, Rect.mem_set_unit]
    intro a
    match a with
    | ⟨0, _⟩ =>
      show win0_10.index ⟨(i 0 : Nat) / 256, ht⟩ 0 * 256 ≤ (i 0 : Nat) ∧ (i 0 : Nat) < win0_10.index ⟨(i 0 : Nat) / 256, ht⟩ 0 * 256 + 256
      rw [(hi _).1]; show (i 0 : Nat) / 256 * 256 ≤ (i 0 : Nat) ∧ (i 0 : Nat) < (i 0 : Nat) / 256 * 256 + 256; omega
    | ⟨1, _⟩ =>
      show win0_10.index ⟨(i 0 : Nat) / 256, ht⟩ 1 * 6912 ≤ (i 1 : Nat) ∧ (i 1 : Nat) < win0_10.index ⟨(i 0 : Nat) / 256, ht⟩ 1 * 6912 + 6912
      rw [(hi _).2]; omega
  have hi : win0_10.index t 0 = t.val ∧ win0_10.index t 1 = 0 := idx_10 t
  have hx : ((cfg0.win 10).xinj (grid0.coords t) y) = ix2 (⟨(y 0).val, (y 0).isLt⟩ : Fin 256) (⟨(y 1).val, (y 1).isLt⟩ : Fin 6912) := by
    funext a; match a with | ⟨0, _⟩ => rfl | ⟨1, _⟩ => rfl
  have hg : ix2 (rowOf t (⟨(y 0).val, (y 0).isLt⟩ : Fin 256)) (⟨(y 1).val, (y 1).isLt⟩ : Fin 6912) = ((cfg0.win 10).blk t).view.emb y := by
    funext a
    apply Fin.ext
    match a with
    | ⟨0, _⟩ => show 256 * t.val + (y 0).val = win0_10.index t 0 * 256 + 1 * (y 0).val; rw [hi.1]; omega
    | ⟨1, _⟩ => show (y 1).val = win0_10.index t 1 * 6912 + 1 * (y 1).val; rw [hi.2]; omega
  have e := codeAt_eq m c t (⟨(y 0).val, (y 0).isLt⟩ : Fin 256) (⟨(y 1).val, (y 1).isLt⟩ : Fin 6912)
  have e1 := (congrFun (afterK_10 m c t) _).trans ((congrArg (codeAt m c t) hx).trans e)
  exact e1.trans (congrArg (argsK m c).codes hg)

/-- What a run's end says of a window's array. -/
theorem post_arr {Λ₀ : Labels} {cfg₁ : Cfg sig Λ₀} {U' : Type} [Idealize.SL.RA.URA U'] {rdat : (c : Dev nD) → RDat τ (Elt Ideal) Unit ℕ U' ℕ cfg₁ c}
    {V : (c : Dev nD) → (b : Ref sig .tc) → Buf (Elt Ideal) ((c.tc : Thread nD τ).loc b)} {r : PUnit × MemSt nD τ sig (Elt Ideal)}
    (h : RDat.FramePost cfg₁ rdat V r) (c : Dev nD) (w : Fin cfg₁.W) :
    (rdat c).ArrAt w cfg₁.N (r.2.mem ((cfg₁.spec w).arr.view.loc (c.tc : Thread nD τ))) := (h c).1 w

/-- A window that is not held to a predicate ends at its exact array. -/
theorem arr_exact (c : Dev nD) (w : Fin cfg0.W) (hw : fgt0 w = false) {G}
    (h : (rdatK m c).ArrAt w cfg0.N G) : G = (datsK m 0 c).arrAt w cfg0.N :=
  ((datsK m 0 c).toR_arrAt_iff w _ _).mp
    (((datsK m 0 c).toR.override_arrAt (by simp only [hw]) _ _).mp h)

/-- The scale window ends with every row filled. -/
theorem arr_11 (c : Dev nD) {G : Vec Ideal S32x128 .f32} (h : (rdatK m c).ArrAt 11 cfg0.N G) : G = (argsK m c).scales := by
  obtain ⟨X, hX, hG⟩ := h.emb_eq_of_wholeAt (t₀ := ⟨15, by decide⟩) (by decide +kernel)
  have hU : Upto m c 16 X := (datsK m 0 c).toRRel_leaves (by rfl) hX
  funext y
  have hy : y = ix2 (n0 := 32) (n1 := 128) (y 0) (y 1) := eq_ix2 y
  have e := (hU (y 0) (y 1) (by have h0 : (y 0).val < 32 := (y 0).isLt; omega)).trans (scaleArr_eq m c (y 0) (y 1))
  exact (hG y).trans ((congrArg X hy).trans (e.trans (congrArg (argsK m c).scales hy).symm))

/-- THE RUN, READ: the three results, the arguments unchanged, every counter at zero. -/
theorem resultsK : θ_run defs (onTc (τ := τ) (main (F := Ideal))) (s₀ m ρ) (fun r =>
    (∀ c : Dev nD, r.2.mem ((c : Thread nD τ).loc main_v3_0) = (argsK m c).out
      ∧ r.2.mem ((c : Thread nD τ).loc main_v3_1) = (argsK m c).codes
      ∧ r.2.mem ((c : Thread nD τ).loc main_v3_2) = (argsK m c).scales
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)) ∧ r.2.sem = fun _ => 0) :=
  (θ_run defs _ _).mono (fun r h => ⟨fun c => ⟨(arr_exact m c 9 rfl (post_arr h.1 c 9)).trans (final_9 m c),
    (arr_exact m c 10 rfl (post_arr h.1 c 10)).trans (final_10 m c), arr_11 m c (post_arr h.1 c 11),
    (RDat.FramePost.arr_in h.1 c 0 rfl).trans ((A_eqK m c 0).trans (V_main_arg0 m c)),
    (RDat.FramePost.arr_in h.1 c 1 rfl).trans ((A_eqK m c 1).trans (V_main_arg1 m c)),
    (RDat.FramePost.arr_in h.1 c 2 rfl).trans ((A_eqK m c 2).trans (V_main_arg2 m c)),
    (RDat.FramePost.arr_in h.1 c 3 rfl).trans ((A_eqK m c 3).trans (V_main_arg3 m c)),
    ((h.1 c).2 main_arg4 (Pipeline.mem_restRefs_of main_arg4 (by decide) (by decide))).trans (V_main_arg4 m c),
    (RDat.FramePost.arr_in h.1 c 5 rfl).trans ((A_eqK m c 5).trans (V_main_arg5 m c)),
    ((h.1 c).2 main_arg6 (Pipeline.mem_restRefs_of main_arg6 (by decide) (by decide))).trans (V_main_arg6 m c),
    (RDat.FramePost.arr_in h.1 c 7 rfl).trans ((A_eqK m c 7).trans (V_main_arg7 m c)),
    ((h.1 c).2 main_arg8 (Pipeline.mem_restRefs_of main_arg8 (by decide) (by decide))).trans (V_main_arg8 m c)⟩, h.2⟩) (runK m ρ)

end Cert.KernelIdeal.Hand

end
-- ==== Proof.RPay.lean ====
/-
  WHAT THE REFERENCE'S VALUES ARE at an index, over the ideal numbers: the activation, the scales, the codes and the result
  as the functions of a row that the specification names.
-/
module

public import proofs.«01_k».proof.Proof.Gen.ReferenceIdeal.Skeleton
public import proofs.«01_k».proof.Proof.Spec
public import Idealize.ShloMosaic.Lib.Pointwise
public import Idealize.ShloMosaic.Lib.Pipeline.Value

@[expose] public section

set_option maxRecDepth 16384

noncomputable section

namespace Cert.ReferenceIdeal.Hand

open Cert.ReferenceIdeal Cert.ReferenceIdeal.Gen Cert.Mlp Idealize.ShloMosaic Idealize.SL.Sem
open scoped BigOperators

/-! ### The constants -/

theorem c_one : Ideal.ofBits .f32 0x3F800000#32 = (1 : EReal) := by
  simp [Ideal.ofBits, Ideal.ieee, -EReal.coe_mul]; norm_num

theorem c_127 : Ideal.ofBits .f32 0x42FE0000#32 = (127 : EReal) := by
  simp [Ideal.ofBits, Ideal.ieee, -EReal.coe_mul]; norm_num; rfl

theorem c_bot : Ideal.ofBits .f32 0xFF800000#32 = (⊥ : EReal) := by
  simp [Ideal.ofBits, Ideal.ieee, -EReal.coe_mul]

variable (x0 : Vec Ideal S4096x1536 .i8) (x1 : Vec Ideal S4096 .f32) (x2 : Vec Ideal S4096x1536 .f32)
  (x3 : Vec Ideal S1536x6912 .i8) (x4 : Vec Ideal S6912 .f32) (x5 : Vec Ideal S1536x6912 .i8) (x6 : Vec Ideal S6912 .f32)
  (x7 : Vec Ideal S6912x1536 .i8) (x8 : Vec Ideal S1536 .f32)

/-- The activation of row `R`. -/
def actV (R : Fin 4096) : Fin 6912 → EReal :=
  act (fun k => x0 (ix2 R k)) (x1 (ix1 R)) (fun k n => x3 (ix2 k n)) (fun n => x4 (ix1 n)) (fun k n => x5 (ix2 k n))
    (fun n => x6 (ix1 n))

theorem act_apply (R : Fin 4096) (n : Fin 6912) :
    k0_pay4 x0 x1 x3 x4 x0 x1 x5 x6 (ix2 R n) = actV x0 x1 x3 x4 x5 x6 R n := by
  pointwise [k0_pay4]
  rfl

/-- The largest absolute value of each row, -/
def maxV (A : FVec Ideal S4096x6912 .f32) : FVec Ideal S4096 .f32 :=
  multiReduction .maximumf [1] S4096 (absf A) 0xFF800000#32 reduces_S4096x6912_S4096 (.inl rfl) rfl

/-- the scale it gives, -/
def scaleV (M : FVec Ideal S4096 .f32) : FVec Ideal S4096 .f32 :=
  select (cmpf .oeq M (broadcast S4096 (Scalar.ofBits .f32 0x00000000#32)))
    (broadcast S4096 (Scalar.ofBits .f32 0x3F800000#32)) (divf M (broadcast S4096 (Scalar.ofBits .f32 0x42FE0000#32)))

/-- and the array over the scales of its rows. -/
def quotV (A : FVec Ideal S4096x6912 .f32) (B : FVec Ideal S4096 .f32) : FVec Ideal S4096x6912 .f32 :=
  divf A (broadcastTo S4096x6912 (shapeCast S4096x1 B shapeCasts_S4096_S4096x1) broadcasts_S4096x1_S4096x6912)

theorem pay5_eq : k0_pay5 x0 x1 x3 x4 x0 x1 x5 x6 = scaleV (maxV (k0_pay4 x0 x1 x3 x4 x0 x1 x5 x6)) := rfl

theorem pay6_eq : k0_pay6 x0 x1 x3 x4 x0 x1 x5 x6 =
    quotV (k0_pay4 x0 x1 x3 x4 x0 x1 x5 x6) (k0_pay5 x0 x1 x3 x4 x0 x1 x5 x6) := rfl

theorem maxV_apply (A : FVec Ideal S4096x6912 .f32) (R : Fin 4096) : maxV A (ix1 R) = amax fun n => A (ix2 R n) := by
  unfold maxV
  refine (Ideal.multiReduction_maximumf_single _ _ reduces_S4096x6912_S4096 (.inl rfl) rfl (ix1 R)).trans ?_
  rw [show (FloatOps.ofBits .f32 (FKind.maximumf.neutral .f32 (.inl rfl)) : Ideal .f32) = (⊥ : EReal) from c_bot]
  unfold amax Finset.sup
  refine congrArg (fun f : Fin 6912 → EReal => (Finset.univ : Finset (Fin 6912)).fold max (⊥ : EReal) f) ?_
  funext n
  have e : reduces_S4096x6912_S4096.lift (ix1 R) n = ix2 R n := by
    funext a
    match a with
    | ⟨0, _⟩ => rfl
    | ⟨1, _⟩ => rfl
  show absf A (reduces_S4096x6912_S4096.lift (ix1 R) n) = mag (A (ix2 R n))
  rw [e]
  rfl

theorem scaleV_apply (M : FVec Ideal S4096 .f32) (R : Fin 4096) : scaleV M (ix1 R) = scaleOf (M (ix1 R)) := by
  pointwise [scaleV]
  rw [show Ideal.ofBits .f32 1123942400#32 = (127 : EReal) from c_127]
  rfl

theorem quotV_apply (A : FVec Ideal S4096x6912 .f32) (B : FVec Ideal S4096 .f32) (R : Fin 4096) (n : Fin 6912) :
    quotV A B (ix2 R n) = Ideal.div (A (ix2 R n)) (B (ix1 R)) := by
  pointwise [quotV]

theorem scale_apply (R : Fin 4096) :
    k0_pay5 x0 x1 x3 x4 x0 x1 x5 x6 (ix1 R) = rowScale (actV x0 x1 x3 x4 x5 x6 R) := by
  rw [pay5_eq, scaleV_apply, maxV_apply]
  simp only [act_apply]
  rfl

theorem quot_apply (R : Fin 4096) (n : Fin 6912) :
    k0_pay6 x0 x1 x3 x4 x0 x1 x5 x6 (ix2 R n) =
      Ideal.div (actV x0 x1 x3 x4 x5 x6 R n) (rowScale (actV x0 x1 x3 x4 x5 x6 R)) := by
  rw [pay6_eq, quotV_apply, act_apply, scale_apply]

theorem code_apply (v : FVec Ideal S4096x6912 .f32) (R : Fin 4096) (n : Fin 6912) :
    k0_pay1 v (ix2 R n) = Ideal.fptosi 8 (clip (v (ix2 R n))) := by
  pointwise [k0_pay1]
  rw [show (((127#32 : BitVec 32).toInt : ℝ) : EReal) = 127 from by simp; rfl, show (((4294967169#32 : BitVec 32).toInt : ℝ) : EReal) = -127 from by simp; rfl]
  rfl

theorem out_apply (v38 : FVec Ideal S4096 .f32) (v41 : FVec Ideal S4096x6912 .f32) (R : Fin 4096) (n : Fin 1536) :
    k0_pay2 v38 v41 x2 x7 x8 (ix2 R n) =
      x2 (ix2 R n) + lin (fun k => k0_pay1 v41 (ix2 R k)) (v38 (ix1 R)) (fun k => x7 (ix2 k n)) (x8 (ix1 n)) := by
  unfold k0_pay2
  generalize k0_pay1 v41 = C
  pointwise []
  rfl

theorem scales_apply (v38 : FVec Ideal S4096 .f32) (p : Fin 32) (j : Fin 128) :
    k0_pay3 v38 (ix2 p j) = v38 (ix1 ⟨p.val * 128 + j.val, by omega⟩) := by
  unfold k0_pay3
  exact shapeCast_apply _ _ _ (ix1 ⟨p.val * 128 + j.val, by omega⟩) (by
    rw [Shape.rowMajor_val_one, Shape.rowMajor_val_two]; rfl)

end Cert.ReferenceIdeal.Hand

end
-- ==== Proof.RRun.lean ====
/-
  WHAT THE REFERENCE'S ARRAYS HOLD AT THE END, over the ideal numbers: its one block of each array is the array, so the
  three results are the whole MLP of the arguments.
-/
module

public import proofs.«01_k».proof.Proof.RPay
public import proofs.«01_k».proof.Proof.Whole
public import proofs.«01_k».proof.Proof.Gen.ReferenceIdeal.Value
public import Idealize.ShloMosaic.Lib.StableHlo.Run
public import Idealize.ShloMosaic.Lib.Pipeline.ValueKit

@[expose] public section

set_option maxRecDepth 16384

noncomputable section

namespace Cert.ReferenceIdeal.Hand

open Cert.ReferenceIdeal Cert.ReferenceIdeal.Gen Cert.Mlp
open Idealize.ShloMosaic Idealize.ShloMosaic.TcCoe Idealize.ShloMosaic.Tactic
open Idealize.SL.Sem

variable (m : (ℓ : Loc nD τ sig) → Buf (Elt Ideal) ℓ) (ρ : Dev nD → PrngReg)

/-- The arguments of a device. -/
def argsR (c : Dev nD) : Args where
  x := m ((c : Thread nD τ).loc main_arg0)
  s := m ((c : Thread nD τ).loc main_arg1)
  h := m ((c : Thread nD τ).loc main_arg2)
  wg := m ((c : Thread nD τ).loc main_arg3)
  sg := m ((c : Thread nD τ).loc main_arg4)
  wu := m ((c : Thread nD τ).loc main_arg5)
  su := m ((c : Thread nD τ).loc main_arg6)
  wd := m ((c : Thread nD τ).loc main_arg7)
  sd := m ((c : Thread nD τ).loc main_arg8)

/-! ## The blocks are the arrays -/

/-- The scales that the host reshapes to one row: entry `R` of the row. -/
theorem V_v0 (c : Dev nD) (R : Fin 4096) : (V m c main_v0 : Vec Ideal S4096 .f32) (ix1 R) = (argsR m c).rowIn R := by
  have e : (V m c main_v0 : Vec Ideal S4096 .f32)
      = shapeCast S4096 (m ((c : Thread nD τ).loc main_arg1) : Vec Ideal S32x128 .f32) shapeCasts_S32x128_S4096 := by
    unfold V
    after_results
    rfl
  rw [e, shapeCast_apply _ _ _ (ix2 ⟨R.val / 128, by omega⟩ ⟨R.val % 128, by omega⟩) (by
    rw [Shape.rowMajor_val_one, Shape.rowMajor_val_two]; show R.val / 128 * 128 + R.val % 128 = R.val; omega)]
  rfl

theorem blk_0 (c : Dev nD) (t : Fin cfg0.N) (r : Fin 4096) (k : Fin 1536) : (iblk m c 0 t : Vec Ideal S4096x1536 .i8) (ix2 r k) = (argsR m c).x (ix2 r k) := by
  have hi : win0_0.index t 0 = 0 ∧ win0_0.index t 1 = 0 := by revert t; decide +kernel
  unfold iblk
  rw [View.read_apply]
  show V m c main_arg0 _ = _
  rw [V_main_arg0]
  show m ((c : Thread nD τ).loc main_arg0) _ = m ((c : Thread nD τ).loc main_arg0) _
  congr 1
  funext a
  apply Fin.ext
  match a with
  | ⟨0, _⟩ => show win0_0.index t 0 * 4096 + 1 * r.val = r.val; rw [hi.1]; omega
  | ⟨1, _⟩ => show win0_0.index t 1 * 1536 + 1 * k.val = k.val; rw [hi.2]; omega

theorem blk_1 (c : Dev nD) (t : Fin cfg0.N) (r : Fin 4096) : (iblk m c 1 t : Vec Ideal S4096 .f32) (ix1 r) = (argsR m c).rowIn r := by
  have hi : win0_1.index t 0 = 0 := by revert t; decide +kernel
  unfold iblk
  rw [View.read_apply]
  show V m c main_v0 _ = _
  refine Eq.trans ?_ (V_v0 m c r)
  congr 1
  funext a
  apply Fin.ext
  match a with
  | ⟨0, _⟩ => show win0_1.index t 0 * 4096 + 1 * r.val = r.val; rw [hi]; omega

theorem blk_2 (c : Dev nD) (t : Fin cfg0.N) (r : Fin 4096) (k : Fin 1536) : (iblk m c 2 t : Vec Ideal S4096x1536 .f32) (ix2 r k) = (argsR m c).h (ix2 r k) := by
  have hi : win0_2.index t 0 = 0 ∧ win0_2.index t 1 = 0 := by revert t; decide +kernel
  unfold iblk
  rw [View.read_apply]
  show V m c main_arg2 _ = _
  rw [V_main_arg2]
  show m ((c : Thread nD τ).loc main_arg2) _ = m ((c : Thread nD τ).loc main_arg2) _
  congr 1
  funext a
  apply Fin.ext
  match a with
  | ⟨0, _⟩ => show win0_2.index t 0 * 4096 + 1 * r.val = r.val; rw [hi.1]; omega
  | ⟨1, _⟩ => show win0_2.index t 1 * 1536 + 1 * k.val = k.val; rw [hi.2]; omega

theorem blk_3 (c : Dev nD) (t : Fin cfg0.N) (r : Fin 1536) (k : Fin 6912) : (iblk m c 3 t : Vec Ideal S1536x6912 .i8) (ix2 r k) = (argsR m c).wg (ix2 r k) := by
  have hi : win0_3.index t 0 = 0 ∧ win0_3.index t 1 = 0 := by revert t; decide +kernel
  unfold iblk
  rw [View.read_apply]
  show V m c main_arg3 _ = _
  rw [V_main_arg3]
  show m ((c : Thread nD τ).loc main_arg3) _ = m ((c : Thread nD τ).loc main_arg3) _
  congr 1
  funext a
  apply Fin.ext
  match a with
  | ⟨0, _⟩ => show win0_3.index t 0 * 1536 + 1 * r.val = r.val; rw [hi.1]; omega
  | ⟨1, _⟩ => show win0_3.index t 1 * 6912 + 1 * k.val = k.val; rw [hi.2]; omega

theorem blk_4 (c : Dev nD) (t : Fin cfg0.N) (r : Fin 6912) : (iblk m c 4 t : Vec Ideal S6912 .f32) (ix1 r) = (argsR m c).sg (ix1 r) := by
  have hi : win0_4.index t 0 = 0 := by revert t; decide +kernel
  unfold iblk
  rw [View.read_apply]
  show V m c main_arg4 _ = _
  rw [V_main_arg4]
  show m ((c : Thread nD τ).loc main_arg4) _ = m ((c : Thread nD τ).loc main_arg4) _
  congr 1
  funext a
  apply Fin.ext
  match a with
  | ⟨0, _⟩ => show win0_4.index t 0 * 6912 + 1 * r.val = r.val; rw [hi]; omega

theorem blk_5 (c : Dev nD) (t : Fin cfg0.N) (r : Fin 1536) (k : Fin 6912) : (iblk m c 5 t : Vec Ideal S1536x6912 .i8) (ix2 r k) = (argsR m c).wu (ix2 r k) := by
  have hi : win0_5.index t 0 = 0 ∧ win0_5.index t 1 = 0 := by revert t; decide +kernel
  unfold iblk
  rw [View.read_apply]
  show V m c main_arg5 _ = _
  rw [V_main_arg5]
  show m ((c : Thread nD τ).loc main_arg5) _ = m ((c : Thread nD τ).loc main_arg5) _
  congr 1
  funext a
  apply Fin.ext
  match a with
  | ⟨0, _⟩ => show win0_5.index t 0 * 1536 + 1 * r.val = r.val; rw [hi.1]; omega
  | ⟨1, _⟩ => show win0_5.index t 1 * 6912 + 1 * k.val = k.val; rw [hi.2]; omega

theorem blk_6 (c : Dev nD) (t : Fin cfg0.N) (r : Fin 6912) : (iblk m c 6 t : Vec Ideal S6912 .f32) (ix1 r) = (argsR m c).su (ix1 r) := by
  have hi : win0_6.index t 0 = 0 := by revert t; decide +kernel
  unfold iblk
  rw [View.read_apply]
  show V m c main_arg6 _ = _
  rw [V_main_arg6]
  show m ((c : Thread nD τ).loc main_arg6) _ = m ((c : Thread nD τ).loc main_arg6) _
  congr 1
  funext a
  apply Fin.ext
  match a with
  | ⟨0, _⟩ => show win0_6.index t 0 * 6912 + 1 * r.val = r.val; rw [hi]; omega

theorem blk_7 (c : Dev nD) (t : Fin cfg0.N) (r : Fin 6912) (k : Fin 1536) : (iblk m c 7 t : Vec Ideal S6912x1536 .i8) (ix2 r k) = (argsR m c).wd (ix2 r k) := by
  have hi : win0_7.index t 0 = 0 ∧ win0_7.index t 1 = 0 := by revert t; decide +kernel
  unfold iblk
  rw [View.read_apply]
  show V m c main_arg7 _ = _
  rw [V_main_arg7]
  show m ((c : Thread nD τ).loc main_arg7) _ = m ((c : Thread nD τ).loc main_arg7) _
  congr 1
  funext a
  apply Fin.ext
  match a with
  | ⟨0, _⟩ => show win0_7.index t 0 * 6912 + 1 * r.val = r.val; rw [hi.1]; omega
  | ⟨1, _⟩ => show win0_7.index t 1 * 1536 + 1 * k.val = k.val; rw [hi.2]; omega

theorem blk_8 (c : Dev nD) (t : Fin cfg0.N) (r : Fin 1536) : (iblk m c 8 t : Vec Ideal S1536 .f32) (ix1 r) = (argsR m c).sd (ix1 r) := by
  have hi : win0_8.index t 0 = 0 := by revert t; decide +kernel
  unfold iblk
  rw [View.read_apply]
  show V m c main_arg8 _ = _
  rw [V_main_arg8]
  show m ((c : Thread nD τ).loc main_arg8) _ = m ((c : Thread nD τ).loc main_arg8) _
  congr 1
  funext a
  apply Fin.ext
  match a with
  | ⟨0, _⟩ => show win0_8.index t 0 * 1536 + 1 * r.val = r.val; rw [hi]; omega

/-! ## What the body leaves -/

/-- The activation of a row is the specification's. -/
theorem actV_eq (c : Dev nD) (t : Fin cfg0.N) (R : Fin 4096) : actV (iblk m c 0 t) (iblk m c 1 t) (iblk m c 3 t) (iblk m c 4 t) (iblk m c 5 t) (iblk m c 6 t) R = (argsR m c).actRow R := by
  funext n
  unfold actV Args.actRow
  simp only [blk_0, blk_1, blk_3, blk_4, blk_5, blk_6]

section
variable (x0 : Vec Ideal S4096x1536 .i8) (x1 : Vec Ideal S4096 .f32) (x2 : Vec Ideal S4096x1536 .f32)
  (x3 : Vec Ideal S1536x6912 .i8) (x4 : Vec Ideal S6912 .f32) (x5 : Vec Ideal S1536x6912 .i8) (x6 : Vec Ideal S6912 .f32)
  (x7 : Vec Ideal S6912x1536 .i8) (x8 : Vec Ideal S1536 .f32)

theorem zero1 : (![0] : Fin 1 → ℕ) = fun _ => 0 := by funext a; match a with | ⟨0, _⟩ => rfl
theorem zero2 : (![0, 0] : Fin 2 → ℕ) = fun _ => 0 := by funext a; match a with | ⟨0, _⟩ => rfl | ⟨1, _⟩ => rfl

/-- The body reads its operands whole. -/
theorem pay7_eq : k0_pay7 x0 x1 x2 x3 x4 x5 x6 x7 x8 = k0_pay5 x0 x1 x3 x4 x0 x1 x5 x6 := by
  unfold k0_pay7
  simp only [View.ld_unit_zero (S := S4096x1536) zero2, View.ld_unit_zero (S := S4096) zero1, View.ld_unit_zero (S := S1536x6912) zero2, View.ld_unit_zero (S := S6912) zero1]

theorem pay8_eq : k0_pay8 x0 x1 x2 x3 x4 x5 x6 x7 x8 = k0_pay6 x0 x1 x3 x4 x0 x1 x5 x6 := by
  unfold k0_pay8
  simp only [View.ld_unit_zero (S := S4096x1536) zero2, View.ld_unit_zero (S := S4096) zero1, View.ld_unit_zero (S := S1536x6912) zero2, View.ld_unit_zero (S := S6912) zero1]

theorem out9_eq : out0_9 x0 x1 x2 x3 x4 x5 x6 x7 x8 = k0_pay2 (k0_pay5 x0 x1 x3 x4 x0 x1 x5 x6) (k0_pay6 x0 x1 x3 x4 x0 x1 x5 x6) x2 x7 x8 := by
  unfold out0_9
  rw [pay7_eq, pay8_eq]
  simp only [View.ld_unit_zero (S := S4096x1536) zero2, View.ld_unit_zero (S := S6912x1536) zero2, View.ld_unit_zero (S := S1536) zero1]
  exact View.canon_unit_zero zero2 _ _

theorem out10_eq : out0_10 x0 x1 x2 x3 x4 x5 x6 x7 x8 = k0_pay1 (k0_pay6 x0 x1 x3 x4 x0 x1 x5 x6) := by
  unfold out0_10
  rw [pay8_eq]
  exact View.canon_unit_zero zero2 _ _

theorem out11_eq : out0_11 x0 x1 x2 x3 x4 x5 x6 x7 x8 = k0_pay3 (k0_pay5 x0 x1 x3 x4 x0 x1 x5 x6) := by
  unfold out0_11
  rw [pay7_eq]
  exact View.canon_unit_zero zero2 _ _
end

/-- The codes, -/
theorem codes_row (c : Dev nD) (t : Fin cfg0.N) (R : Fin 4096) (n : Fin 6912) :
    (k0_pay1 (k0_pay6 (iblk m c 0 t) (iblk m c 1 t) (iblk m c 3 t) (iblk m c 4 t) (iblk m c 0 t) (iblk m c 1 t) (iblk m c 5 t) (iblk m c 6 t)) : Vec Ideal S4096x6912 .i8) (ix2 R n)
      = rowCode ((argsR m c).actRow R) n := by
  rw [code_apply, quot_apply, actV_eq]
  rfl

theorem codes_apply (c : Dev nD) (t : Fin cfg0.N) (R : Fin 4096) (n : Fin 6912) :
    out0_10 (iblk m c 0 t) (iblk m c 1 t) (iblk m c 2 t) (iblk m c 3 t) (iblk m c 4 t) (iblk m c 5 t) (iblk m c 6 t) (iblk m c 7 t) (iblk m c 8 t) (ix2 R n) = (argsR m c).codes (ix2 R n) := by
  rw [out10_eq]
  exact codes_row m c t R n

/-- the result, -/
theorem result_apply (c : Dev nD) (t : Fin cfg0.N) (R : Fin 4096) (n : Fin 1536) :
    out0_9 (iblk m c 0 t) (iblk m c 1 t) (iblk m c 2 t) (iblk m c 3 t) (iblk m c 4 t) (iblk m c 5 t) (iblk m c 6 t) (iblk m c 7 t) (iblk m c 8 t) (ix2 R n) = (argsR m c).out (ix2 R n) := by
  rw [out9_eq, out_apply, scale_apply, actV_eq]
  simp only [codes_row, blk_2, blk_7, blk_8]
  rfl

/-- and the scales. -/
theorem scale_at (c : Dev nD) (t : Fin cfg0.N) (p : Fin 32) (j : Fin 128) :
    out0_11 (iblk m c 0 t) (iblk m c 1 t) (iblk m c 2 t) (iblk m c 3 t) (iblk m c 4 t) (iblk m c 5 t) (iblk m c 6 t) (iblk m c 7 t) (iblk m c 8 t) (ix2 p j) = (argsR m c).scales (ix2 p j) := by
  rw [out11_eq, scales_apply, scale_apply, actV_eq]
  rfl

/-! ## The arrays at the end -/

theorem idx_9 (t : Fin cfg0.N) : win0_9.index t 0 = 0 ∧ win0_9.index t 1 = 0 := by revert t; decide +kernel

theorem final_9 (c : Dev nD) : (dats m 0 c).arrAt 9 cfg0.N = (argsR m c).out := by
  refine (dats m 0 c).arrAt_eq_of_after_last 9 t0_0 (by decide +kernel) _ fun j => ?_
  have hj : ∀ h : ∀ a, (j a : ℕ) < (cfg0.win 9).size a, (fun a => ⟨j a, h a⟩ : (cfg0.win 9).block.Idx) = ix2 (n0 := 4096) (n1 := 1536) (j 0) (j 1) := fun h => by
    funext a; match a with | ⟨0, _⟩ => rfl | ⟨1, _⟩ => rfl
  have e := (congrFun (after0_9 m c t0_0) (ix2 (n0 := 4096) (n1 := 1536) (j 0) (j 1))).trans (result_apply m c t0_0 (j 0) (j 1))
  exact ((congrArg ((dats m 0 c).after 9 t0_0) (hj _)).trans e).trans
    (congrArg (argsR m c).out (eq_ix2 (n0 := 4096) (n1 := 1536) j).symm)

theorem idx_10 (t : Fin cfg0.N) : win0_10.index t 0 = 0 ∧ win0_10.index t 1 = 0 := by revert t; decide +kernel

theorem final_10 (c : Dev nD) : (dats m 0 c).arrAt 10 cfg0.N = (argsR m c).codes := by
  refine (dats m 0 c).arrAt_eq_of_after_last 10 t0_0 (by decide +kernel) _ fun j => ?_
  have hj : ∀ h : ∀ a, (j a : ℕ) < (cfg0.win 10).size a, (fun a => ⟨j a, h a⟩ : (cfg0.win 10).block.Idx) = ix2 (n0 := 4096) (n1 := 6912) (j 0) (j 1) := fun h => by
    funext a; match a with | ⟨0, _⟩ => rfl | ⟨1, _⟩ => rfl
  have e := (congrFun (after0_10 m c t0_0) (ix2 (n0 := 4096) (n1 := 6912) (j 0) (j 1))).trans (codes_apply m c t0_0 (j 0) (j 1))
  exact ((congrArg ((dats m 0 c).after 10 t0_0) (hj _)).trans e).trans
    (congrArg (argsR m c).codes (eq_ix2 (n0 := 4096) (n1 := 6912) j).symm)

theorem idx_11 (t : Fin cfg0.N) : win0_11.index t 0 = 0 ∧ win0_11.index t 1 = 0 := by revert t; decide +kernel

theorem final_11 (c : Dev nD) : (dats m 0 c).arrAt 11 cfg0.N = (argsR m c).scales := by
  refine (dats m 0 c).arrAt_eq_of_after_last 11 t0_0 (by decide +kernel) _ fun j => ?_
  have hj : ∀ h : ∀ a, (j a : ℕ) < (cfg0.win 11).size a, (fun a => ⟨j a, h a⟩ : (cfg0.win 11).block.Idx) = ix2 (n0 := 32) (n1 := 128) (j 0) (j 1) := fun h => by
    funext a; match a with | ⟨0, _⟩ => rfl | ⟨1, _⟩ => rfl
  have e := (congrFun (after0_11 m c t0_0) (ix2 (n0 := 32) (n1 := 128) (j 0) (j 1))).trans (scale_at m c t0_0 (j 0) (j 1))
  exact ((congrArg ((dats m 0 c).after 11 t0_0) (hj _)).trans e).trans
    (congrArg (argsR m c).scales (eq_ix2 (n0 := 32) (n1 := 128) j).symm)

/-- THE RUN, READ: the three results and the arguments unchanged. -/
theorem resultsR : θ_run defs (onTc (τ := τ) (main (F := Ideal))) ⟨m, fun _ => 0, ρ⟩ (fun r =>
    ∀ c : Dev nD, r.2.mem ((c : Thread nD τ).loc main_v1_0) = (argsR m c).out
      ∧ r.2.mem ((c : Thread nD τ).loc main_v1_1) = (argsR m c).codes
      ∧ r.2.mem ((c : Thread nD τ).loc main_v1_2) = (argsR m c).scales
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)) :=
  (θ_run defs _ _).mono (fun r h c => ⟨(h c).1.trans (final_9 m c), (h c).2.1.trans (final_10 m c),
    (h c).2.2.1.trans (final_11 m c), (h c).2.2.2⟩) (Cert.ReferenceIdeal.Value.run_blocks m ρ)

end Cert.ReferenceIdeal.Hand

end
-- ==== Proof.lean ====
/-
  THE PROOF OF `Cert.Claim`: the three programs run, keep their arguments and end with every counter at zero; the ideal
  kernel's two named constants are what their rule says; and the ideal kernel and the ideal reference end with the same
  three arrays, both being the whole MLP of the arguments (`Cert.Mlp.Args`, Proof/Whole.lean).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.FFrame
public import proofs.«01_k».proof.Proof.KEnd
public import proofs.«01_k».proof.Proof.RRun
public import Idealize.ShloMosaic.Adequacy
public import Idealize.ShloMosaic.Init

@[expose] public section

noncomputable section

namespace Cert.Proof

open Idealize.ShloMosaic Idealize.SL.Sem

/-- Memories that agree on the arguments give both programs the same arrays. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    Cert.ReferenceIdeal.Hand.argsR m' c = Cert.KernelIdeal.Hand.argsK m c := by
  obtain ⟨h0, h1, h2, h3, h4, h5, h6, h7, h8⟩ := h
  unfold Cert.ReferenceIdeal.Hand.argsR Cert.KernelIdeal.Hand.argsK
  exact Cert.Mlp.Args.mk.injEq .. ▸ ⟨h0, h1, h2, h3, h4, h5, h6, h7, h8⟩

theorem algebraic : Cert.algebraic_KernelIdeal_ReferenceIdeal (hKernelIdeal := Cert.KernelIdeal.Gen.facts)
    (hReferenceIdeal := Cert.ReferenceIdeal.Gen.facts) := fun m g m' g' _ h =>
  ⟨fun c => (Cert.KernelIdeal.Hand.argsK m c).out, fun c => (Cert.KernelIdeal.Hand.argsK m c).codes,
    fun c => (Cert.KernelIdeal.Hand.argsK m c).scales,
    (θ_run Cert.KernelIdeal.defs _ _).mono (fun _ hr => hr.1) (Cert.KernelIdeal.Hand.resultsK m g),
    (θ_run Cert.ReferenceIdeal.defs _ _).mono (fun _ hr c =>
      have e := args_eq m m' c (h c)
      ⟨(hr c).1.trans (congrArg Cert.Mlp.Args.out e), (hr c).2.1.trans (congrArg Cert.Mlp.Args.codes e),
        (hr c).2.2.1.trans (congrArg Cert.Mlp.Args.scales e), (hr c).2.2.2⟩)
      (Cert.ReferenceIdeal.Hand.resultsR m' g')⟩

theorem claim : Cert.Claim := ⟨Cert.Kernel.Gen.facts, Cert.KernelIdeal.Gen.facts, Cert.ReferenceIdeal.Gen.facts,
  fun m g _ => Cert.Kernel.Hand.frame m g,
  fun m g _ => (θ_run Cert.KernelIdeal.defs _ _).mono (fun _ hr => ⟨fun c => (hr.1 c).2.2.2, hr.2⟩)
    (Cert.KernelIdeal.Hand.resultsK m g),
  fun m g _ => Cert.ReferenceIdeal.Gen.frame m g,
  ⟨IdealRules.named_const.statement Cert.KernelIdeal.κ "neg_log2e" .f32 0xBFB8AA3B#32 ((-((Real.log 2)⁻¹) : ℝ) : EReal) rfl,
    IdealRules.named_const.statement Cert.KernelIdeal.κ "inv_127" .f32 0x3C010204#32 ((1 / 127 : ℝ) : EReal) rfl⟩,
  algebraic⟩

end Cert.Proof

end
